-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x32x64 : S_.BroadcastsInDim S2x256x32x64 (![] : Fin 0 → Fin S2x256x32x64.rank)

variable [Facts]

def fn {F : FTy → Type} [FloatOps F] (main_arg0 : FVec F S2x256x512 .bf16) (main_arg1 : FVec F S512x256 .bf16) (main_arg2 : FVec F S2x256x32x64 .bf16) (main_arg3 : FVec F S2x256x32x64 .bf16) (main_arg4 : FVec F S256x512 .bf16) : IVec S2x256x512 1 × IVec S512x256 1 × IVec S2x256x32x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x256x32x64 .bf16 := Host.absf main_arg2
  let main_cst_1 : FVec F S_ .bf16 := constant S_ .bf16 0x7F80#16
  let main_v7 : FVec F S2x256x32x64 .bf16 := broadcastInDim S2x256x32x64 ![] bcast_S_S2x256x32x64 main_cst_1
  let main_v8 : IVec S2x256x32x64 1 := cmpf .olt main_v6 main_v7
  (main_v2, main_v5, main_v8)
-- ==== Pre_finite_ReferenceIdeal.lean ====
abbrev S2x2048x512 : Shape := ⟨3, ![2, 2048, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩

class Facts : Prop where
  bcast_S_S2x2048x512 : S_.BroadcastsInDim S2x2048x512 (![] : Fin 0 → Fin S2x2048x512.rank)
  bcast_S_S512x2048 : S_.BroadcastsInDim S512x2048 (![] : Fin 0 → Fin S512x2048.rank)
  bcast_S_S2x256x32x64 : S_.BroadcastsInDim S2x256x32x64 (![] : Fin 0 → Fin S2x256x32x64.rank)

variable [Facts]

def fn {F : FTy → Type} [FloatOps F] (main_arg0 : FVec F S2x2048x512 .bf16) (main_arg1 : FVec F S512x2048 .bf16) (main_arg2 : FVec F S2x256x32x64 .bf16) (main_arg3 : FVec F S2x256x32x64 .bf16) (main_arg4 : FVec F S2048x512 .bf16) : IVec S2x2048x512 1 × IVec S512x2048 1 × IVec S2x256x32x64 1 :=
  let main_v0 : FVec F S2x2048x512 .bf16 := Host.absf main_arg0
  let main_cst : FVec F S_ .bf16 := constant S_ .bf16 0x7F80#16
  let main_v1 : FVec F S2x2048x512 .bf16 := broadcastInDim S2x2048x512 ![] bcast_S_S2x2048x512 main_cst
  let main_v2 : IVec S2x2048x512 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  let main_v6 : FVec F S2x256x32x64 .bf16 := Host.absf main_arg2
  let main_cst_1 : FVec F S_ .bf16 := constant S_ .bf16 0x7F80#16
  let main_v7 : FVec F S2x256x32x64 .bf16 := broadcastInDim S2x256x32x64 ![] bcast_S_S2x256x32x64 main_cst_1
  let main_v8 : IVec S2x256x32x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S8x1024x256 : Shape := ⟨3, ![8, 1024, 256]⟩
abbrev S8x32x64x64 : Shape := ⟨4, ![8, 32, 64, 64]⟩
abbrev S8 : Shape := ⟨1, ![8]⟩
abbrev S1x512x256 : Shape := ⟨3, ![1, 512, 256]⟩
abbrev S2x4x64x32x64 : Shape := ⟨5, ![2, 4, 64, 32, 64]⟩
abbrev S32x2x4x64x64 : Shape := ⟨5, ![32, 2, 4, 64, 64]⟩
abbrev S_ : Shape := ⟨0, ![]⟩
abbrev S1 : Shape := ⟨1, ![1]⟩
abbrev S1x1024x256 : Shape := ⟨3, ![1, 1024, 256]⟩
abbrev S1024x256 : Shape := ⟨2, ![1024, 256]⟩
abbrev S512x512 : Shape := ⟨2, ![512, 512]⟩
abbrev S2x4x64x4x64 : Shape := ⟨5, ![2, 4, 64, 4, 64]⟩
abbrev S4x2x4x64x64 : Shape := ⟨5, ![4, 2, 4, 64, 64]⟩
abbrev S32x64x64 : Shape := ⟨3, ![32, 64, 64]⟩
abbrev S1x32x64x64 : Shape := ⟨4, ![1, 32, 64, 64]⟩
abbrev S32x64 : Shape := ⟨2, ![32, 64]⟩
abbrev S32x64x1 : Shape := ⟨3, ![32, 64, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x32x64, .bf16⟩
  | .hbm, ⟨3, _⟩ => ⟨S2x256x32x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x32x64, .bf16⟩
  | .local _ .vmem, ⟨3, _⟩ => ⟨S2x256x32x64, .bf16⟩
  | .local _ .vmem, ⟨4, _⟩ => ⟨S256x512, .bf16⟩
  | .local _ .vmem, ⟨5, _⟩ => ⟨S2x256x512, .f32⟩
  | .local _ .vmem, ⟨6, _⟩ => ⟨S8x1024x256, .bf16⟩
  | .local _ .vmem, ⟨7, _⟩ => ⟨S8x32x64x64, .bf16⟩
  | .local _ .vmem, ⟨8, _⟩ => ⟨S8x32x64x64, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : Index := Scalar.indexCast v2
  let c0_1 : Index := 0#32
  let c0_2 : Index := 0#32
  ![v6.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v14 : Index := Scalar.indexCast v2
  let c512 : Index := 512#32
  let c0_5 : Index := 0#32
  ![v14.toNat, 512, 0]
def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v35 : BitVec 32 := Scalar.addi v2 c1_i32_22
  let c8_i32_23 : BitVec 32 := 8#32
  let c0_i32 : BitVec 32 := 0#32
  let v36 : BitVec 1 := Scalar.cmpi .eq c8_i32_23 c0_i32
  let c1_i32_24 : BitVec 32 := 1#32
  let v37 : BitVec 32 := Scalar.select v36 c1_i32_24 c8_i32_23
  let v38 : BitVec 32 := Scalar.remsi v35 v37
  let c0_i32_26 : BitVec 32 := 0#32
  let v40 : BitVec 1 := Scalar.cmpi .slt v38 c0_i32_26
  let c0_i32_27 : BitVec 32 := 0#32
  let v41 : BitVec 1 := Scalar.cmpi .slt v37 c0_i32_27
  let v42 : BitVec 1 := Scalar.xori v40 v41
  let c0_i32_25 : BitVec 32 := 0#32
  let v39 : BitVec 1 := Scalar.cmpi .ne v38 c0_i32_25
  let v43 : BitVec 1 := Scalar.andi v42 v39
  let v44 : BitVec 32 := Scalar.addi v38 v37
  let v45 : BitVec 32 := Scalar.select v43 v44 v38
  let c1_i32_29 : BitVec 32 := 1#32
  let v46 : BitVec 32 := Scalar.muli v45 c1_i32_29
  let v47 : BitVec 32 := Scalar.addi c0_i32_30 v46
  v47.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v48 : BitVec 32 := Scalar.addi v2 c2_i32
  let c8_i32_31 : BitVec 32 := 8#32
  let c0_i32_32 : BitVec 32 := 0#32
  let v49 : BitVec 1 := Scalar.cmpi .eq c8_i32_31 c0_i32_32
  let c1_i32_33 : BitVec 32 := 1#32
  let v50 : BitVec 32 := Scalar.select v49 c1_i32_33 c8_i32_31
  let v51 : BitVec 32 := Scalar.remsi v48 v50
  let c0_i32_35 : BitVec 32 := 0#32
  let v53 : BitVec 1 := Scalar.cmpi .slt v51 c0_i32_35
  let c0_i32_36 : BitVec 32 := 0#32
  let v54 : BitVec 1 := Scalar.cmpi .slt v50 c0_i32_36
  let v55 : BitVec 1 := Scalar.xori v53 v54
  let c0_i32_34 : BitVec 32 := 0#32
  let v52 : BitVec 1 := Scalar.cmpi .ne v51 c0_i32_34
  let v56 : BitVec 1 := Scalar.andi v55 v52
  let v57 : BitVec 32 := Scalar.addi v51 v50
  let v58 : BitVec 32 := Scalar.select v56 v57 v51
  let c1_i32_38 : BitVec 32 := 1#32
  let v59 : BitVec 32 := Scalar.muli v58 c1_i32_38
  let v60 : BitVec 32 := Scalar.addi c0_i32_39 v59
  v60.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v61 : BitVec 32 := Scalar.addi v2 c3_i32
  let c8_i32_40 : BitVec 32 := 8#32
  let c0_i32_41 : BitVec 32 := 0#32
  let v62 : BitVec 1 := Scalar.cmpi .eq c8_i32_40 c0_i32_41
  let c1_i32_42 : BitVec 32 := 1#32
  let v63 : BitVec 32 := Scalar.select v62 c1_i32_42 c8_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_47 : BitVec 32 := 1#32
  let v72 : BitVec 32 := Scalar.muli v71 c1_i32_47
  let v73 : BitVec 32 := Scalar.addi c0_i32_48 v72
  v73.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v74 : BitVec 32 := Scalar.addi v2 c4_i32
  let c8_i32_49 : BitVec 32 := 8#32
  let c0_i32_50 : BitVec 32 := 0#32
  let v75 : BitVec 1 := Scalar.cmpi .eq c8_i32_49 c0_i32_50
  let c1_i32_51 : BitVec 32 := 1#32
  let v76 : BitVec 32 := Scalar.select v75 c1_i32_51 c8_i32_49
  let v77 : BitVec 32 := Scalar.remsi v74 v76
  let c0_i32_53 : BitVec 32 := 0#32
  let v79 : BitVec 1 := Scalar.cmpi .slt v77 c0_i32_53
  let c0_i32_54 : BitVec 32 := 0#32
  let v80 : BitVec 1 := Scalar.cmpi .slt v76 c0_i32_54
  let v81 : BitVec 1 := Scalar.xori v79 v80
  let c0_i32_52 : BitVec 32 := 0#32
  let v78 : BitVec 1 := Scalar.cmpi .ne v77 c0_i32_52
  let v82 : BitVec 1 := Scalar.andi v81 v78
  let v83 : BitVec 32 := Scalar.addi v77 v76
  let v84 : BitVec 32 := Scalar.select v82 v83 v77
  let c1_i32_56 : BitVec 32 := 1#32
  let v85 : BitVec 32 := Scalar.muli v84 c1_i32_56
  let v86 : BitVec 32 := Scalar.addi c0_i32_57 v85
  v86.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v87 : BitVec 32 := Scalar.addi v2 c5_i32
  let c8_i32_58 : BitVec 32 := 8#32
  let c0_i32_59 : BitVec 32 := 0#32
  let v88 : BitVec 1 := Scalar.cmpi .eq c8_i32_58 c0_i32_59
  let c1_i32_60 : BitVec 32 := 1#32
  let v89 : BitVec 32 := Scalar.select v88 c1_i32_60 c8_i32_58
  let v90 : BitVec 32 := Scalar.remsi v87 v89
  let c0_i32_62 : BitVec 32 := 0#32
  let v92 : BitVec 1 := Scalar.cmpi .slt v90 c0_i32_62
  let c0_i32_63 : BitVec 32 := 0#32
  let v93 : BitVec 1 := Scalar.cmpi .slt v89 c0_i32_63
  let v94 : BitVec 1 := Scalar.xori v92 v93
  let c0_i32_61 : BitVec 32 := 0#32
  let v91 : BitVec 1 := Scalar.cmpi .ne v90 c0_i32_61
  let v95 : BitVec 1 := Scalar.andi v94 v91
  let v96 : BitVec 32 := Scalar.addi v90 v89
  let v97 : BitVec 32 := Scalar.select v95 v96 v90
  let c1_i32_65 : BitVec 32 := 1#32
  let v98 : BitVec 32 := Scalar.muli v97 c1_i32_65
  let v99 : BitVec 32 := Scalar.addi c0_i32_66 v98
  v99.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v100 : BitVec 32 := Scalar.addi v2 c6_i32
  let c8_i32_67 : BitVec 32 := 8#32
  let c0_i32_68 : BitVec 32 := 0#32
  let v101 : BitVec 1 := Scalar.cmpi .eq c8_i32_67 c0_i32_68
  let c1_i32_69 : BitVec 32 := 1#32
  let v102 : BitVec 32 := Scalar.select v101 c1_i32_69 c8_i32_67
  let v103 : BitVec 32 := Scalar.remsi v100 v102
  let c0_i32_71 : BitVec 32 := 0#32
  let v105 : BitVec 1 := Scalar.cmpi .slt v103 c0_i32_71
  let c0_i32_72 : BitVec 32 := 0#32
  let v106 : BitVec 1 := Scalar.cmpi .slt v102 c0_i32_72
  let v107 : BitVec 1 := Scalar.xori v105 v106
  let c0_i32_70 : BitVec 32 := 0#32
  let v104 : BitVec 1 := Scalar.cmpi .ne v103 c0_i32_70
  let v108 : BitVec 1 := Scalar.andi v107 v104
  let v109 : BitVec 32 := Scalar.addi v103 v102
  let v110 : BitVec 32 := Scalar.select v108 v109 v103
  let c1_i32_74 : BitVec 32 := 1#32
  let v111 : BitVec 32 := Scalar.muli v110 c1_i32_74
  let v112 : BitVec 32 := Scalar.addi c0_i32_75 v111
  v112.toNat
def k0_dev7 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v113 : BitVec 32 := Scalar.addi v2 c7_i32
  let c8_i32_76 : BitVec 32 := 8#32
  let c0_i32_77 : BitVec 32 := 0#32
  let v114 : BitVec 1 := Scalar.cmpi .eq c8_i32_76 c0_i32_77
  let c1_i32_78 : BitVec 32 := 1#32
  let v115 : BitVec 32 := Scalar.select v114 c1_i32_78 c8_i32_76
  let v116 : BitVec 32 := Scalar.remsi v113 v115
  let c0_i32_80 : BitVec 32 := 0#32
  let v118 : BitVec 1 := Scalar.cmpi .slt v116 c0_i32_80
  let c0_i32_81 : BitVec 32 := 0#32
  let v119 : BitVec 1 := Scalar.cmpi .slt v115 c0_i32_81
  let v120 : BitVec 1 := Scalar.xori v118 v119
  let c0_i32_79 : BitVec 32 := 0#32
  let v117 : BitVec 1 := Scalar.cmpi .ne v116 c0_i32_79
  let v121 : BitVec 1 := Scalar.andi v120 v117
  let v122 : BitVec 32 := Scalar.addi v116 v115
  let v123 : BitVec 32 := Scalar.select v121 v122 v116
  let c1_i32_83 : BitVec 32 := 1#32
  let v124 : BitVec 32 := Scalar.muli v123 c1_i32_83
  let v125 : BitVec 32 := Scalar.addi c0_i32_84 v124
  v125.toNat
def k0_off3 (d0 : Dev nD) (c1_i32_86 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.addi v2 c1_i32_86
  let c8_i32_87 : BitVec 32 := 8#32
  let c0_i32_88 : BitVec 32 := 0#32
  let v127 : BitVec 1 := Scalar.cmpi .eq c8_i32_87 c0_i32_88
  let c1_i32_89 : BitVec 32 := 1#32
  let v128 : BitVec 32 := Scalar.select v127 c1_i32_89 c8_i32_87
  let v129 : BitVec 32 := Scalar.remsi v126 v128
  let c0_i32_91 : BitVec 32 := 0#32
  let v131 : BitVec 1 := Scalar.cmpi .slt v129 c0_i32_91
  let c0_i32_92 : BitVec 32 := 0#32
  let v132 : BitVec 1 := Scalar.cmpi .slt v128 c0_i32_92
  let v133 : BitVec 1 := Scalar.xori v131 v132
  let c0_i32_90 : BitVec 32 := 0#32
  let v130 : BitVec 1 := Scalar.cmpi .ne v129 c0_i32_90
  let v134 : BitVec 1 := Scalar.andi v133 v130
  let v135 : BitVec 32 := Scalar.addi v129 v128
  let v136 : BitVec 32 := Scalar.select v134 v135 v129
  ![v136.toNat]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v126 : BitVec 32 := Scalar.addi v2 c1_i32_86
  let c8_i32_87 : BitVec 32 := 8#32
  let c0_i32_88 : BitVec 32 := 0#32
  let v127 : BitVec 1 := Scalar.cmpi .eq c8_i32_87 c0_i32_88
  let c1_i32_89 : BitVec 32 := 1#32
  let v128 : BitVec 32 := Scalar.select v127 c1_i32_89 c8_i32_87
  let v129 : BitVec 32 := Scalar.remsi v126 v128
  let c0_i32_91 : BitVec 32 := 0#32
  let v131 : BitVec 1 := Scalar.cmpi .slt v129 c0_i32_91
  let c0_i32_92 : BitVec 32 := 0#32
  let v132 : BitVec 1 := Scalar.cmpi .slt v128 c0_i32_92
  let v133 : BitVec 1 := Scalar.xori v131 v132
  let c0_i32_90 : BitVec 32 := 0#32
  let v130 : BitVec 1 := Scalar.cmpi .ne v129 c0_i32_90
  let v134 : BitVec 1 := Scalar.andi v133 v130
  let v135 : BitVec 32 := Scalar.addi v129 v128
  let v136 : BitVec 32 := Scalar.select v134 v135 v129
  let c1_i32_93 : BitVec 32 := 1#32
  let v137 : BitVec 32 := Scalar.muli v136 c1_i32_93
  let v138 : BitVec 32 := Scalar.addi c0_i32_94 v137
  v138.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_99 : BitVec 32 := 2#32
  let v147 : BitVec 32 := Scalar.addi v2 c2_i32_99
  let c8_i32_100 : BitVec 32 := 8#32
  let c0_i32_101 : BitVec 32 := 0#32
  let v148 : BitVec 1 := Scalar.cmpi .eq c8_i32_100 c0_i32_101
  let c1_i32_102 : BitVec 32 := 1#32
  let v149 : BitVec 32 := Scalar.select v148 c1_i32_102 c8_i32_100
  let v150 : BitVec 32 := Scalar.remsi v147 v149
  let c0_i32_104 : BitVec 32 := 0#32
  let v152 : BitVec 1 := Scalar.cmpi .slt v150 c0_i32_104
  let c0_i32_105 : BitVec 32 := 0#32
  let v153 : BitVec 1 := Scalar.cmpi .slt v149 c0_i32_105
  let v154 : BitVec 1 := Scalar.xori v152 v153
  let c0_i32_103 : BitVec 32 := 0#32
  let v151 : BitVec 1 := Scalar.cmpi .ne v150 c0_i32_103
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_112 : BitVec 32 := 3#32
  let v168 : BitVec 32 := Scalar.addi v2 c3_i32_112
  let c8_i32_113 : BitVec 32 := 8#32
  let c0_i32_114 : BitVec 32 := 0#32
  let v169 : BitVec 1 := Scalar.cmpi .eq c8_i32_113 c0_i32_114
  let c1_i32_115 : BitVec 32 := 1#32
  let v170 : BitVec 32 := Scalar.select v169 c1_i32_115 c8_i32_113
  let v171 : BitVec 32 := Scalar.remsi v168 v170
  let c0_i32_117 : BitVec 32 := 0#32
  let v173 : BitVec 1 := Scalar.cmpi .slt v171 c0_i32_117
  let c0_i32_118 : BitVec 32 := 0#32
  let v174 : BitVec 1 := Scalar.cmpi .slt v170 c0_i32_118
  let v175 : BitVec 1 := Scalar.xori v173 v174
  let c0_i32_116 : BitVec 32 := 0#32
  let v172 : BitVec 1 := Scalar.cmpi .ne v171 c0_i32_116
  let v176 : BitVec 1 := Scalar.andi v175 v172
  let v177 : BitVec 32 := Scalar.addi v171 v170
  let v178 : BitVec 32 := Scalar.select v176 v177 v171
  let c1_i32_119 : BitVec 32 := 1#32
  let v179 : BitVec 32 := Scalar.muli v178 c1_i32_119
  let v180 : BitVec 32 := Scalar.addi c0_i32_120 v179
  v180.toNat
def k0_dev11 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_125 : BitVec 32 := 4#32
  let v189 : BitVec 32 := Scalar.addi v2 c4_i32_125
  let c8_i32_126 : BitVec 32 := 8#32
  let c0_i32_127 : BitVec 32 := 0#32
  let v190 : BitVec 1 := Scalar.cmpi .eq c8_i32_126 c0_i32_127
  let c1_i32_128 : BitVec 32 := 1#32
  let v191 : BitVec 32 := Scalar.select v190 c1_i32_128 c8_i32_126
  let v192 : BitVec 32 := Scalar.remsi v189 v191
  let c0_i32_130 : BitVec 32 := 0#32
  let v194 : BitVec 1 := Scalar.cmpi .slt v192 c0_i32_130
  let c0_i32_131 : BitVec 32 := 0#32
  let v195 : BitVec 1 := Scalar.cmpi .slt v191 c0_i32_131
  let v196 : BitVec 1 := Scalar.xori v194 v195
  let c0_i32_129 : BitVec 32 := 0#32
  let v193 : BitVec 1 := Scalar.cmpi .ne v192 c0_i32_129
  let v197 : BitVec 1 := Scalar.andi v196 v193
  let v198 : BitVec 32 := Scalar.addi v192 v191
  let v199 : BitVec 32 := Scalar.select v197 v198 v192
  let c1_i32_132 : BitVec 32 := 1#32
  let v200 : BitVec 32 := Scalar.muli v199 c1_i32_132
  let v201 : BitVec 32 := Scalar.addi c0_i32_133 v200
  v201.toNat
def k0_dev12 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_138 : BitVec 32 := 5#32
  let v210 : BitVec 32 := Scalar.addi v2 c5_i32_138
  let c8_i32_139 : BitVec 32 := 8#32
  let c0_i32_140 : BitVec 32 := 0#32
  let v211 : BitVec 1 := Scalar.cmpi .eq c8_i32_139 c0_i32_140
  let c1_i32_141 : BitVec 32 := 1#32
  let v212 : BitVec 32 := Scalar.select v211 c1_i32_141 c8_i32_139
  let v213 : BitVec 32 := Scalar.remsi v210 v212
  let c0_i32_143 : BitVec 32 := 0#32
  let v215 : BitVec 1 := Scalar.cmpi .slt v213 c0_i32_143
  let c0_i32_144 : BitVec 32 := 0#32
  let v216 : BitVec 1 := Scalar.cmpi .slt v212 c0_i32_144
  let v217 : BitVec 1 := Scalar.xori v215 v216
  let c0_i32_142 : BitVec 32 := 0#32
  let v214 : BitVec 1 := Scalar.cmpi .ne v213 c0_i32_142
  let v218 : BitVec 1 := Scalar.andi v217 v214
  let v219 : BitVec 32 := Scalar.addi v213 v212
  let v220 : BitVec 32 := Scalar.select v218 v219 v213
  let c1_i32_145 : BitVec 32 := 1#32
  let v221 : BitVec 32 := Scalar.muli v220 c1_i32_145
  let v222 : BitVec 32 := Scalar.addi c0_i32_146 v221
  v222.toNat
def k0_dev13 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_151 : BitVec 32 := 6#32
  let v231 : BitVec 32 := Scalar.addi v2 c6_i32_151
  let c8_i32_152 : BitVec 32 := 8#32
  let c0_i32_153 : BitVec 32 := 0#32
  let v232 : BitVec 1 := Scalar.cmpi .eq c8_i32_152 c0_i32_153
  let c1_i32_154 : BitVec 32 := 1#32
  let v233 : BitVec 32 := Scalar.select v232 c1_i32_154 c8_i32_152
  let v234 : BitVec 32 := Scalar.remsi v231 v233
  let c0_i32_156 : BitVec 32 := 0#32
  let v236 : BitVec 1 := Scalar.cmpi .slt v234 c0_i32_156
  let c0_i32_157 : BitVec 32 := 0#32
  let v237 : BitVec 1 := Scalar.cmpi .slt v233 c0_i32_157
  let v238 : BitVec 1 := Scalar.xori v236 v237
  let c0_i32_155 : BitVec 32 := 0#32
  let v235 : BitVec 1 := Scalar.cmpi .ne v234 c0_i32_155
  let v239 : BitVec 1 := Scalar.andi v238 v235
  let v240 : BitVec 32 := Scalar.addi v234 v233
  let v241 : BitVec 32 := Scalar.select v239 v240 v234
  let c1_i32_158 : BitVec 32 := 1#32
  let v242 : BitVec 32 := Scalar.muli v241 c1_i32_158
  let v243 : BitVec 32 := Scalar.addi c0_i32_159 v242
  v243.toNat
def k0_dev14 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_164 : BitVec 32 := 7#32
  let v252 : BitVec 32 := Scalar.addi v2 c7_i32_164
  let c8_i32_165 : BitVec 32 := 8#32
  let c0_i32_166 : BitVec 32 := 0#32
  let v253 : BitVec 1 := Scalar.cmpi .eq c8_i32_165 c0_i32_166
  let c1_i32_167 : BitVec 32 := 1#32
  let v254 : BitVec 32 := Scalar.select v253 c1_i32_167 c8_i32_165
  let v255 : BitVec 32 := Scalar.remsi v252 v254
  let c0_i32_169 : BitVec 32 := 0#32
  let v257 : BitVec 1 := Scalar.cmpi .slt v255 c0_i32_169
  let c0_i32_170 : BitVec 32 := 0#32
  let v258 : BitVec 1 := Scalar.cmpi .slt v254 c0_i32_170
  let v259 : BitVec 1 := Scalar.xori v257 v258
  let c0_i32_168 : BitVec 32 := 0#32
  let v256 : BitVec 1 := Scalar.cmpi .ne v255 c0_i32_168
  let v260 : BitVec 1 := Scalar.andi v259 v256
  let v261 : BitVec 32 := Scalar.addi v255 v254
  let v262 : BitVec 32 := Scalar.select v260 v261 v255
  let c1_i32_171 : BitVec 32 := 1#32
  let v263 : BitVec 32 := Scalar.muli v262 c1_i32_171
  let v264 : BitVec 32 := Scalar.addi c0_i32_172 v263
  v264.toNat
def k0_off6 (d0 : Dev nD) (c0_i32_180 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v277 : BitVec 32 := Scalar.subi v2 c0_i32_180
  let c8_i32_181 : BitVec 32 := 8#32
  let c0_i32_182 : BitVec 32 := 0#32
  let v278 : BitVec 1 := Scalar.cmpi .eq c8_i32_181 c0_i32_182
  let c1_i32_183 : BitVec 32 := 1#32
  let v279 : BitVec 32 := Scalar.select v278 c1_i32_183 c8_i32_181
  let v280 : BitVec 32 := Scalar.remsi v277 v279
  let c0_i32_185 : BitVec 32 := 0#32
  let v282 : BitVec 1 := Scalar.cmpi .slt v280 c0_i32_185
  let c0_i32_186 : BitVec 32 := 0#32
  let v283 : BitVec 1 := Scalar.cmpi .slt v279 c0_i32_186
  let v284 : BitVec 1 := Scalar.xori v282 v283
  let c0_i32_184 : BitVec 32 := 0#32
  let v281 : BitVec 1 := Scalar.cmpi .ne v280 c0_i32_184
  let v285 : BitVec 1 := Scalar.andi v284 v281
  let v286 : BitVec 32 := Scalar.addi v280 v279
  let v287 : BitVec 32 := Scalar.select v285 v286 v280
  let v288 : Index := Scalar.indexCast v287
  let c0_187 : Index := 0#32
  let c0_188 : Index := 0#32
  ![v288.toNat, 0, 0]
def k0_off7 (d0 : Dev nD) (c0_i32_180 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v277 : BitVec 32 := Scalar.subi v2 c0_i32_180
  let c8_i32_181 : BitVec 32 := 8#32
  let c0_i32_182 : BitVec 32 := 0#32
  let v278 : BitVec 1 := Scalar.cmpi .eq c8_i32_181 c0_i32_182
  let c1_i32_183 : BitVec 32 := 1#32
  let v279 : BitVec 32 := Scalar.select v278 c1_i32_183 c8_i32_181
  let v280 : BitVec 32 := Scalar.remsi v277 v279
  let c0_i32_185 : BitVec 32 := 0#32
  let v282 : BitVec 1 := Scalar.cmpi .slt v280 c0_i32_185
  let c0_i32_186 : BitVec 32 := 0#32
  let v283 : BitVec 1 := Scalar.cmpi .slt v279 c0_i32_186
  let v284 : BitVec 1 := Scalar.xori v282 v283
  let c0_i32_184 : BitVec 32 := 0#32
  let v281 : BitVec 1 := Scalar.cmpi .ne v280 c0_i32_184
  let v285 : BitVec 1 := Scalar.andi v284 v281
  let v286 : BitVec 32 := Scalar.addi v280 v279
  let v287 : BitVec 32 := Scalar.select v285 v286 v280
  let v298 : Index := Scalar.indexCast v287
  let c0_190 : Index := 0#32
  let c0_191 : Index := 0#32
  let c0_192 : Index := 0#32
  ![v298.toNat, 0, 0, 0]
def k0_off8 (d0 : Dev nD) (c1_i32_202 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v324 : BitVec 32 := Scalar.subi v2 c1_i32_202
  let c8_i32_203 : BitVec 32 := 8#32
  let c0_i32_204 : BitVec 32 := 0#32
  let v325 : BitVec 1 := Scalar.cmpi .eq c8_i32_203 c0_i32_204
  let c1_i32_205 : BitVec 32 := 1#32
  let v326 : BitVec 32 := Scalar.select v325 c1_i32_205 c8_i32_203
  let v327 : BitVec 32 := Scalar.remsi v324 v326
  let c0_i32_207 : BitVec 32 := 0#32
  let v329 : BitVec 1 := Scalar.cmpi .slt v327 c0_i32_207
  let c0_i32_208 : BitVec 32 := 0#32
  let v330 : BitVec 1 := Scalar.cmpi .slt v326 c0_i32_208
  let v331 : BitVec 1 := Scalar.xori v329 v330
  let c0_i32_206 : BitVec 32 := 0#32
  let v328 : BitVec 1 := Scalar.cmpi .ne v327 c0_i32_206
  let v332 : BitVec 1 := Scalar.andi v331 v328
  let v333 : BitVec 32 := Scalar.addi v327 v326
  let v334 : BitVec 32 := Scalar.select v332 v333 v327
  ![v334.toNat]
def k0_off9 (d0 : Dev nD) (c1_i32_202 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v324 : BitVec 32 := Scalar.subi v2 c1_i32_202
  let c8_i32_203 : BitVec 32 := 8#32
  let c0_i32_204 : BitVec 32 := 0#32
  let v325 : BitVec 1 := Scalar.cmpi .eq c8_i32_203 c0_i32_204
  let c1_i32_205 : BitVec 32 := 1#32
  let v326 : BitVec 32 := Scalar.select v325 c1_i32_205 c8_i32_203
  let v327 : BitVec 32 := Scalar.remsi v324 v326
  let c0_i32_207 : BitVec 32 := 0#32
  let v329 : BitVec 1 := Scalar.cmpi .slt v327 c0_i32_207
  let c0_i32_208 : BitVec 32 := 0#32
  let v330 : BitVec 1 := Scalar.cmpi .slt v326 c0_i32_208
  let v331 : BitVec 1 := Scalar.xori v329 v330
  let c0_i32_206 : BitVec 32 := 0#32
  let v328 : BitVec 1 := Scalar.cmpi .ne v327 c0_i32_206
  let v332 : BitVec 1 := Scalar.andi v331 v328
  let v333 : BitVec 32 := Scalar.addi v327 v326
  let v334 : BitVec 32 := Scalar.select v332 v333 v327
  let c0_i32_211 : BitVec 32 := 0#32
  let c0_i32_212 : BitVec 32 := 0#32
  ![v334.toNat, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x2048 : Shape := ⟨2, ![512, 2048]⟩
abbrev S2x256x32x64 : Shape := ⟨4, ![2, 256, 32, 64]⟩
abbrev S2048x512 : Shape := ⟨2, ![2048, 512]⟩
abbrev S2x2048x2048 : Shape := ⟨3, ![2, 2048, 2048]⟩
abbrev S2x2048x32x64 : Shape := ⟨4, ![2, 2048, 32, 64]⟩
abbrev S2048 : Shape := ⟨1, ![2048]⟩
abbrev S_ : Shape := ⟨0, ![]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S2x32x2048x256 : Shape := ⟨4, ![2, 32, 2048, 256]⟩
abbrev S1x1x2048x256 : Shape := ⟨4, ![1, 1, 2048, 256]⟩
abbrev S2x32x2048 : Shape := ⟨3, ![2, 32, 2048]⟩
abbrev S2x32x2048x1 : Shape := ⟨4, ![2, 32, 2048, 1]⟩
abbrev S1x1x2048x1 : Shape := ⟨4, ![1, 1, 2048, 1]⟩
abbrev S2x32x64x2048 : Shape := ⟨4, ![2, 32, 64, 2048]⟩

abbrev nBuf : Space → Nat
  | .hbm => 142
  | .vmem => 0
  | .smem => 0
  | _ => 0

abbrev hbmTy0_0 (i : Nat) : BufTy := match i % 128 with
  | 0 => ⟨S2x2048x512, .bf16⟩
  | 1 => ⟨S512x2048, .bf16⟩
  | 2 => ⟨S2x256x32x64, .bf16⟩
  | 3 => ⟨S2x256x32x64, .bf16⟩
  | 4 => ⟨S2048x512, .bf16⟩
  | 5 => ⟨S2x2048x512, .f32⟩
  | 6 => ⟨S512x2048, .f32⟩
  | 7 => ⟨S2x256x32x64, .f32⟩
  | 8 => ⟨S2x256x32x64, .f32⟩
  | 9 => ⟨S2048x512, .f32⟩
  | 10 => ⟨S2x2048x2048, .f32⟩
  | 11 => ⟨S2x2048x32x64, .f32⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S256, .i32⟩
  | 33 => ⟨S_, .i32⟩
  | 34 => ⟨S_, .i32⟩
  | 35 => ⟨S256, .i32⟩
  | 36 => ⟨S256, .i32⟩
  | 37 => ⟨S256, .i32⟩
  | 38 => ⟨S_, .i32⟩
  | 39 => ⟨S256, .i32⟩
  | 40 => ⟨S256, .i1⟩
  | 41 => ⟨S256, .i32⟩
  | 42 => ⟨S256, .i32⟩
  | 43 => ⟨S_, .i32⟩
  | 44 => ⟨S256, .i32⟩
  | 45 => ⟨S256, .i1⟩
  | 46 => ⟨S256, .i1⟩
  | 47 => ⟨S_, .i32⟩
  | 48 => ⟨S256, .i32⟩
  | 49 => ⟨S256, .i32⟩
  | 50 => ⟨S256, .i32⟩
  | 51 => ⟨S1x256, .i32⟩
  | 52 => ⟨S2048x256, .i32⟩
  | 53 => ⟨S2048x256, .i32⟩
  | 54 => ⟨S2048x256, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x256, .i32⟩
  | 62 => ⟨S1x256, .i32⟩
  | 63 => ⟨S_, .i32⟩
  | 64 => ⟨S1x256, .i32⟩
  | 65 => ⟨S1x256, .i1⟩
  | 66 => ⟨S_, .i32⟩
  | 67 => ⟨S1x256, .i32⟩
  | 68 => ⟨S1x256, .i1⟩
  | 69 => ⟨S_, .i32⟩
  | 70 => ⟨S_, .i1⟩
  | 71 => ⟨S1x256, .i1⟩
  | 72 => ⟨S1x256, .i1⟩
  | 73 => ⟨S1x256, .i1⟩
  | 74 => ⟨S1x256, .i32⟩
  | 75 => ⟨S1x256, .i32⟩
  | 76 => ⟨S1x256, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S2048x1, .i32⟩
  | 84 => ⟨S2048x1, .i32⟩
  | 85 => ⟨S_, .i32⟩
  | 86 => ⟨S2048x1, .i32⟩
  | 87 => ⟨S2048x1, .i1⟩
  | 88 => ⟨S_, .i32⟩
  | 89 => ⟨S2048x1, .i32⟩
  | 90 => ⟨S2048x1, .i1⟩
  | 91 => ⟨S_, .i32⟩
  | 92 => ⟨S_, .i1⟩
  | 93 => ⟨S2048x1, .i1⟩
  | 94 => ⟨S2048x1, .i1⟩
  | 95 => ⟨S2048x1, .i1⟩
  | 96 => ⟨S2048x1, .i32⟩
  | 97 => ⟨S2048x1, .i32⟩
  | 98 => ⟨S2048x1, .i32⟩
  | 99 => ⟨S2048x256, .i32⟩
  | 100 => ⟨S2048x256, .i32⟩
  | 101 => ⟨S2048x256, .i1⟩
  | 102 => ⟨S2048x256, .i1⟩
  | 103 => ⟨S2x32x2048x256, .f32⟩
  | 104 => ⟨S_, .f32⟩
  | 105 => ⟨S2x32x2048x256, .f32⟩
  | 106 => ⟨S2x32x2048x256, .f32⟩
  | 107 => ⟨S1x1x2048x256, .i1⟩
  | 108 => ⟨S_, .f32⟩
  | 109 => ⟨S_, .f32⟩
  | 110 => ⟨S2x32x2048x256, .i1⟩
  | 111 => ⟨S2x32x2048x256, .f32⟩
  | 112 => ⟨S2x32x2048x256, .f32⟩
  | 113 => ⟨S_, .f32⟩
  | 114 => ⟨S2x32x2048, .f32⟩
  | 115 => ⟨S2x32x2048x1, .f32⟩
  | 116 => ⟨S2x32x2048x256, .f32⟩
  | 117 => ⟨S2x32x2048x256, .f32⟩
  | 118 => ⟨S2x32x2048x256, .f32⟩
  | 119 => ⟨S_, .i1⟩
  | 120 => ⟨S2048, .i1⟩
  | 121 => ⟨S1x1x2048x1, .i1⟩
  | 122 => ⟨S_, .f32⟩
  | 123 => ⟨S2x32x2048, .f32⟩
  | 124 => ⟨S2x32x2048x1, .f32⟩
  | 125 => ⟨S_, .f32⟩
  | 126 => ⟨S_, .f32⟩
  | 127 => ⟨S2x32x2048x1, .i1⟩
  | _ => ⟨S2x2048x512, .bf16⟩

abbrev hbmTy0_1 (i : Nat) : BufTy := match i % 128 with
  | 0 => ⟨S2x32x2048x1, .f32⟩
  | 1 => ⟨S2x32x2048x1, .f32⟩
  | 2 => ⟨S2x32x2048x256, .f32⟩
  | 3 => ⟨S2x32x2048x256, .f32⟩
  | 4 => ⟨S1x1x2048x1, .i1⟩
  | 5 => ⟨S_, .f32⟩
  | 6 => ⟨S_, .f32⟩
  | 7 => ⟨S2x32x2048x256, .i1⟩
  | 8 => ⟨S2x32x2048x256, .f32⟩
  | 9 => ⟨S2x32x2048x256, .f32⟩
  | 10 => ⟨S2x32x64x2048, .f32⟩
  | 11 => ⟨S2x2048x32x64, .f32⟩
  | 12 => ⟨S2x2048x2048, .f32⟩
  | 13 => ⟨S2x2048x512, .f32⟩
  | _ => ⟨S2x2048x512, .bf16⟩

abbrev hbmTy (i : Nat) : BufTy := match i / 128 with
  | 0 => hbmTy0_0 i
  | 1 => hbmTy0_1 i
  | _ => ⟨S2x2048x512, .bf16⟩

abbrev bufTy : (tb : Table) → Fin (tcTables nBuf tb) → BufTy
  | .hbm, ⟨i, _⟩ => hbmTy i
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Cells.lean ====
/-
The devices, the cells and the slots of the weight exchange: names for what each semaphore and each part of the
communication buffer is, in closed form, whatever the kernel's own index arithmetic spells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.ViewIndex
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

/-- The device `k` places after `c`. -/
def ahead (c : Dev nD) (k : ℕ) : Dev nD := ⟨(c.val + k) % 8, Nat.mod_lt _ (by decide)⟩
/-- The device `k` places before `c`. -/
def behind (c : Dev nD) (k : ℕ) : Dev nD := ⟨(c.val + (8 - k)) % 8, Nat.mod_lt _ (by decide)⟩

/-- The peers `c` has still to address after its first `n` messages: those `n + 1`, …, `7` places after it. -/
def toGo (c : Dev nD) (n : ℕ) : Finset (Dev nD) := ((Finset.Ioc n 7).image fun k => ahead c k)
/-- The peers whose weights `c` has still to use after its first `n` waits: those `n + 1`, …, `7` places before it. -/
def toCome (c : Dev nD) (n : ℕ) : Finset (Dev nD) := ((Finset.Ioc n 7).image fun k => behind c k)

/-- At the start all peers are still to be addressed, -/
theorem toGo_zero : ∀ c : Dev nD, toGo c 0 = Finset.univ.erase c := by decide +kernel
/-- after seven messages none. -/
theorem toGo_seven : ∀ c : Dev nD, toGo c 7 = ∅ := by decide +kernel
/-- At the start all peers' weights are still to be used, -/
theorem toCome_zero : ∀ c : Dev nD, toCome c 0 = Finset.univ.erase c := by decide +kernel
/-- after seven waits none. -/
theorem toCome_seven : ∀ c : Dev nD, toCome c 7 = ∅ := by decide +kernel
/-- The next peer addressed is one of those left, -/
theorem ahead_mem : ∀ (c : Dev nD) (n : Fin 7), ahead c (n.val + 1) ∈ toGo c n.val := by decide +kernel
/-- and the others are left after it. -/
theorem toGo_succ : ∀ (c : Dev nD) (n : Fin 7), (toGo c n.val).erase (ahead c (n.val + 1)) = toGo c (n.val + 1) := by decide +kernel
/-- The next peer waited for is one of those left, -/
theorem behind_mem : ∀ (c : Dev nD) (n : Fin 7), behind c (n.val + 1) ∈ toCome c n.val := by decide +kernel
/-- and the others are left after it. -/
theorem toCome_succ : ∀ (c : Dev nD) (n : Fin 7), (toCome c n.val).erase (behind c (n.val + 1)) = toCome c (n.val + 1) := by decide +kernel
/-- A device does not address itself -/
theorem ahead_ne : ∀ (c : Dev nD) (n : Fin 7), ahead c (n.val + 1) ≠ c := by decide +kernel
/-- nor wait for itself. -/
theorem behind_ne : ∀ (c : Dev nD) (n : Fin 7), behind c (n.val + 1) ≠ c := by decide +kernel
/-- No place back is the device itself. -/
theorem behind_zero : ∀ c : Dev nD, behind c 0 = c := by decide +kernel

/-! ## The kernel's device words -/

/-- The devices named by the signals, then by the copies: the k-th is k places ahead. -/
theorem dev1_eq : ∀ c : Dev nD, (⟨k0_dev1 c, k0_dev1_lt c⟩ : Dev nD) = ahead c 1 := by decide +kernel
/-- signal 2, -/
theorem dev2_eq : ∀ c : Dev nD, (⟨k0_dev2 c, k0_dev2_lt c⟩ : Dev nD) = ahead c 2 := by decide +kernel
/-- signal 3, -/
theorem dev3_eq : ∀ c : Dev nD, (⟨k0_dev3 c, k0_dev3_lt c⟩ : Dev nD) = ahead c 3 := by decide +kernel
/-- signal 4, -/
theorem dev4_eq : ∀ c : Dev nD, (⟨k0_dev4 c, k0_dev4_lt c⟩ : Dev nD) = ahead c 4 := by decide +kernel
/-- signal 5, -/
theorem dev5_eq : ∀ c : Dev nD, (⟨k0_dev5 c, k0_dev5_lt c⟩ : Dev nD) = ahead c 5 := by decide +kernel
/-- signal 6, -/
theorem dev6_eq : ∀ c : Dev nD, (⟨k0_dev6 c, k0_dev6_lt c⟩ : Dev nD) = ahead c 6 := by decide +kernel
/-- signal 7, -/
theorem dev7_eq : ∀ c : Dev nD, (⟨k0_dev7 c, k0_dev7_lt c⟩ : Dev nD) = ahead c 7 := by decide +kernel
/-- copy 1, -/
theorem dev8_eq : ∀ c : Dev nD, (⟨k0_dev8 c, k0_dev8_lt c⟩ : Dev nD) = ahead c 1 := by decide +kernel
/-- copy 2, -/
theorem dev9_eq : ∀ c : Dev nD, (⟨k0_dev9 c, k0_dev9_lt c⟩ : Dev nD) = ahead c 2 := by decide +kernel
/-- copy 3, -/
theorem dev10_eq : ∀ c : Dev nD, (⟨k0_dev10 c, k0_dev10_lt c⟩ : Dev nD) = ahead c 3 := by decide +kernel
/-- copy 4, -/
theorem dev11_eq : ∀ c : Dev nD, (⟨k0_dev11 c, k0_dev11_lt c⟩ : Dev nD) = ahead c 4 := by decide +kernel
/-- copy 5, -/
theorem dev12_eq : ∀ c : Dev nD, (⟨k0_dev12 c, k0_dev12_lt c⟩ : Dev nD) = ahead c 5 := by decide +kernel
/-- copy 6, -/
theorem dev13_eq : ∀ c : Dev nD, (⟨k0_dev13 c, k0_dev13_lt c⟩ : Dev nD) = ahead c 6 := by decide +kernel
/-- copy 7. -/
theorem dev14_eq : ∀ c : Dev nD, (⟨k0_dev14 c, k0_dev14_lt c⟩ : Dev nD) = ahead c 7 := by decide +kernel

/-! ## The kernel's offsets -/

/-- The offsets, by the step's number: the one that names the peer addressed by a copy, -/
theorem off3_eq : ∀ (c : Dev nD) (n : Fin 7), k0_off3 c (BitVec.ofNat 32 (1 + n.val)) = ![(ahead c (n.val + 1)).val] := by decide +kernel
/-- the slot of a step's source, -/
theorem off6_eq : ∀ (c : Dev nD) (n : Fin 8), k0_off6 c (BitVec.ofNat 32 n.val) = ![(behind c n.val).val, 0, 0] := by decide +kernel
/-- the heads of its owner, -/
theorem off7_eq : ∀ (c : Dev nD) (n : Fin 8), k0_off7 c (BitVec.ofNat 32 n.val) = ![(behind c n.val).val, 0, 0, 0] := by decide +kernel
/-- the receive counter waited on, -/
theorem off8_eq : ∀ (c : Dev nD) (n : Fin 7), k0_off8 c (BitVec.ofNat 32 (1 + n.val)) = ![(behind c (n.val + 1)).val] := by decide +kernel
/-- and the slot that arrives. -/
theorem off9_eq : ∀ (c : Dev nD) (n : Fin 7), k0_off9 c (BitVec.ofNat 32 (1 + n.val)) = ![(behind c (n.val + 1)).val, 0, 0] := by decide +kernel

/-! ## Semaphores -/

/-- The runtime's barrier semaphore. -/
abbrev barS : Sem sig := (SemArray.scalar (sig.barrier 0 rfl) : Sems sig S_).sem
/-- The semaphore a device's own copy to device `j` credits when the source may be reused. -/
def sendS (j : Dev nD) : DmaSem sig := ⟨6 + j.val, by have := j.isLt; simp only [nD] at this; show _ < 22; omega⟩
/-- The semaphore the copy arriving from device `j` credits. -/
def recvS (j : Dev nD) : DmaSem sig := ⟨14 + j.val, by have := j.isLt; simp only [nD] at this; show _ < 22; omega⟩

/-- A counter's number lies within its array. -/
theorem inbSem (j : Dev nD) : ∀ a, (![j.val] : Fin 1 → ℕ) a + S1.size a ≤ S8.size a := by revert j; decide +kernel

/-- The send counter picked out of the array, -/
theorem send_lit : ∀ j : Dev nD, ((cc0_scratch3.slice (Rect.unit (s := S8) ![j.val] S1.size (inbSem j))).squeeze S_ squeezes_S1_S_).sem = sendS j := by decide +kernel
/-- and the receive counter. -/
theorem recv_lit : ∀ j : Dev nD, ((cc0_scratch4.slice (Rect.unit (s := S8) ![j.val] S1.size (inbSem j))).squeeze S_ squeezes_S1_S_).sem = recvS j := by decide +kernel

/-- The send semaphore at any spelling of its index. -/
theorem send_at (j : Dev nD) {off : Fin 1 → ℕ} (h : off = ![j.val]) (inb) :
    ((cc0_scratch3.slice (Rect.unit (s := S8) off S1.size inb)).squeeze S_ squeezes_S1_S_).sem = sendS j := by subst h; exact send_lit j
/-- The receive semaphore at any spelling of its index. -/
theorem recv_at (j : Dev nD) {off : Fin 1 → ℕ} (h : off = ![j.val]) (inb) :
    ((cc0_scratch4.slice (Rect.unit (s := S8) off S1.size inb)).squeeze S_ squeezes_S1_S_).sem = recvS j := by subst h; exact recv_lit j

/-! ## The communication buffer's slots -/

/-- The communication buffer. -/
abbrev commM : Memref sig .tc .vmem S8x1024x256 .bf16 := Memref.whole cc0_scratch0

/-- A slot lies within the communication buffer. -/
theorem inbSlot (j : Dev nD) : ∀ a, (![j.val, 0, 0] : Fin 3 → ℕ) a + S1x1024x256.size a ≤ S8x1024x256.size a := by revert j; decide +kernel

abbrev slotR (j : Dev nD) : Rect S8x1024x256 := Rect.unit (s := S8x1024x256) ![j.val, 0, 0] S1x1024x256.size (inbSlot j)
/-- Device `j`'s slot of the communication buffer. -/
abbrev slotM (j : Dev nD) : Memref sig .tc .vmem S1024x256 .bf16 :=
  (commM.slice (slotR j) (fun _ => rfl)).squeeze S1024x256 squeezes_S1x1024x256_S1024x256

/-- The slot at any spelling of its offset. -/
theorem slot_at (j : Dev nD) {off : Fin 3 → ℕ} (h : off = ![j.val, 0, 0]) (inb) (hu) :
    (commM.slice (Rect.unit (s := S8x1024x256) off S1x1024x256.size inb) hu).squeeze S1024x256 squeezes_S1x1024x256_S1024x256 = slotM j := by subst h; rfl

abbrev BufC : Type := S8x1024x256.Idx

/-- The elements of slot `j`. -/
def slotSet (j : Dev nD) : Finset BufC := (slotR j).set

/-- A slot holds the places whose first coordinate is its number. -/
theorem mem_slotSet {j : Dev nD} {i : BufC} : i ∈ slotSet j ↔ (i 0).val = j.val := by
  unfold slotSet
  rw [Rect.mem_set_unit, Fin.forall_fin_succ, Fin.forall_fin_succ, Fin.forall_fin_succ]
  have h1 := (i 1).isLt; have h2 := (i 2).isLt
  simp only [S8x1024x256, S1x1024x256] at h1 h2 ⊢
  simp at h1 h2 ⊢
  omega

/-- The view of a slot covers just the slot. -/
theorem slot_set (j : Dev nD) : (slotM j).view.set = slotSet j := by
  show ((commM.view.slice (slotR j)).reshape _ _).set = _
  rw [View.set_reshape]; exact View.set_slice_whole _ _

/-- Two slots share no place. -/
theorem slot_disj (i j : Dev nD) (h : i ≠ j) : Disjoint (slotSet i) (slotSet j) :=
  Finset.disjoint_left.mpr fun x hi hj => h (Fin.ext ((mem_slotSet.mp hi).symm.trans (mem_slotSet.mp hj)))
/-- The eight slots are the whole buffer. -/
theorem slot_cover : Finset.univ.biUnion slotSet = Finset.univ := by
  ext i; simp only [Finset.mem_biUnion, Finset.mem_univ, true_and, iff_true]
  exact ⟨⟨(i 0).val, (i 0).isLt⟩, mem_slotSet.mpr rfl⟩

/-- What one copy of a slot credits. -/
@[irreducible] def N : ℕ := (slotM 0).view.dmaCredit
/-- A slot's copy credits a positive amount, -/
theorem N_pos : 0 < N := by unfold N; exact View.dmaCredit_pos _ (by decide)
/-- the same for every slot. -/
theorem slot_credit (j : Dev nD) : (slotM j).view.dmaCredit = N := by unfold N; rfl

end Cert.Exchange

end
-- ==== Proof.Schedule.lean ====
/-
The weights each device packs into its slot, and the schedule of the exchange: who pays which semaphore cell how much,
and what the payment hands over.
-/
module

public import proofs.«01_k».proof.Proof.Cells
public import Idealize.ShloMosaic.Lib.ValueIdxCore
public import Idealize.ShloMosaic.Lib.Pipeline.ValueKit.Geometry

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (a duty per paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Contents -/

/-- The staged inputs of device `c`: its rows of `x`, its columns of `Wq`, the keys, the values, its rows of `Wo`. -/
def xS (c : Dev nD) : (cc0_stg0_0 : Ref sig .tc).ty.Contents (Elt F) := (win0_0.blk (0 : Fin 1)).view.read (Elt F) (m ((c : Thread nD τ).loc main_arg0))
def wqS (c : Dev nD) : (cc0_stg1_0 : Ref sig .tc).ty.Contents (Elt F) := (win0_1.blk (0 : Fin 1)).view.read (Elt F) (m ((c : Thread nD τ).loc main_arg1))
def kS (c : Dev nD) : (cc0_stg2_0 : Ref sig .tc).ty.Contents (Elt F) := (win0_2.blk (0 : Fin 1)).view.read (Elt F) (m ((c : Thread nD τ).loc main_arg2))
def vS (c : Dev nD) : (cc0_stg3_0 : Ref sig .tc).ty.Contents (Elt F) := (win0_3.blk (0 : Fin 1)).view.read (Elt F) (m ((c : Thread nD τ).loc main_arg3))
def woS (c : Dev nD) : (cc0_stg4_0 : Ref sig .tc).ty.Contents (Elt F) := (win0_4.blk (0 : Fin 1)).view.read (Elt F) (m ((c : Thread nD τ).loc main_arg4))

/-- The communication buffer once every slot is filled, the same on every device: rows below 512 of slot `j` are device
    `j`'s part of `Wq`, the others its part of `Wo`, transposed. -/
def packed : S8x1024x256.Idx → Elt F .bf16 := fun i =>
  if h : (i 1).val < 512 then k0_pay1 (wqS m ⟨(i 0).val, (i 0).isLt⟩) (ix3 (n0 := 1) (n1 := 512) (n2 := 256) 0 ⟨(i 1).val, h⟩ ⟨(i 2).val, (i 2).isLt⟩)
  else k0_pay2 (woS m ⟨(i 0).val, (i 0).isLt⟩) (ix3 (n0 := 1) (n1 := 512) (n2 := 256) 0
    ⟨(i 1).val - 512, by have := (i 1).isLt; have h2 : S8x1024x256.size 1 = 1024 := rfl; omega⟩ ⟨(i 2).val, (i 2).isLt⟩)

abbrev topR (j : Dev nD) : Rect S8x1024x256 := Rect.unit (s := S8x1024x256) (k0_off1 j) S1x512x256.size (k0_off1_inb j)
abbrev lowR (j : Dev nD) : Rect S8x1024x256 := Rect.unit (s := S8x1024x256) (k0_off2 j) S1x512x256.size (k0_off2_inb j)

/-- The upper half of a slot, -/
theorem mem_topR {j : Dev nD} {i : BufC} : i ∈ (commM.access (topR j)).set ↔ (i 0).val = j.val ∧ (i 1).val < 512 := by
  rw [show (commM.access (topR j)).set = (topR j).set from View.set_slice_whole _ _, Rect.mem_set_unit, k0_off1_eq,
    Fin.forall_fin_succ, Fin.forall_fin_succ, Fin.forall_fin_succ]
  have h1 := (i 1).isLt; have h2 := (i 2).isLt
  simp only [S8x1024x256, S1x512x256] at h1 h2 ⊢
  simp at h1 h2 ⊢
  omega
/-- and the lower half, place by place. -/
theorem mem_lowR {j : Dev nD} {i : BufC} : i ∈ (commM.access (lowR j)).set ↔ (i 0).val = j.val ∧ 512 ≤ (i 1).val := by
  rw [show (commM.access (lowR j)).set = (lowR j).set from View.set_slice_whole _ _, Rect.mem_set_unit, k0_off2_eq,
    Fin.forall_fin_succ, Fin.forall_fin_succ, Fin.forall_fin_succ]
  have h1 := (i 1).isLt; have h2 := (i 2).isLt
  simp only [S8x1024x256, S1x512x256] at h1 h2 ⊢
  simp at h1 h2 ⊢
  omega

/-- What a store through a unit rectangle leaves at the element under the rectangle's index `x`. -/
theorem store_at {R : Rect S8x1024x256} (f : (cc0_scratch0 : Ref sig .tc).ty.Contents (Elt F)) (w : R.shape.Idx → Elt F .bf16) (x : R.shape.Idx) :
    (commM.access R : View sig .tc _ _ _).write (Elt F) f w Finset.univ (R.emb x) = w x :=
  View.write_emb_of_mem (v := (commM.access R : View sig .tc _ _ _)) f w (Finset.mem_univ x)

omit [FloatOps F] in
/-- What it leaves outside the rectangle. -/
theorem store_off {R : Rect S8x1024x256} (f : (cc0_scratch0 : Ref sig .tc).ty.Contents (Elt F)) (w : R.shape.Idx → Elt F .bf16) (i : BufC)
    (h : i ∉ (commM.access R).set) :
    (commM.access R : View sig .tc _ _ _).write (Elt F) f w Finset.univ i = f i := by
  exact View.write_of_not_mem (v := (commM.access R : View sig .tc _ _ _)) f w Finset.univ h

/-- The two stores of the packing leave the packed weights on the device's own slot, whatever the buffer held. -/
theorem packed_own (c : Dev nD) (f : (cc0_scratch0 : Ref sig .tc).ty.Contents (Elt F)) (i : BufC) (hi : i ∈ slotSet c) :
    (commM.access (lowR c) : View sig .tc _ _ _).write (Elt F)
      ((commM.access (topR c) : View sig .tc _ _ _).write (Elt F) f (k0_pay1 (wqS m c)) Finset.univ) (k0_pay2 (woS m c)) Finset.univ i = packed m i := by
  have h0 := mem_slotSet.mp hi
  have hc : (⟨(i 0).val, (i 0).isLt⟩ : Dev nD) = c := Fin.ext h0
  have h1 := (i 1).isLt; have h2 := (i 2).isLt
  have e1 : S8x1024x256.size 1 = 1024 := rfl
  by_cases h : (i 1).val < 512
  · rw [store_off _ _ _ (fun h' => absurd (mem_lowR.mp h').2 (by omega))]
    have he : i = (topR c).emb (ix3 (n0 := 1) (n1 := 512) (n2 := 256) 0 ⟨(i 1).val, h⟩ ⟨(i 2).val, h2⟩) := by
      refine Shape.idx3_ext ?_ ?_ ?_ <;> rw [ValueKit.rect_emb_unit_val] <;> simp [k0_off1_eq, h0]
    unfold packed
    rw [dif_pos h, hc]
    exact (congrArg _ he).trans (store_at _ _ _)
  · have he : i = (lowR c).emb (ix3 (n0 := 1) (n1 := 512) (n2 := 256) 0 ⟨(i 1).val - 512, by omega⟩ ⟨(i 2).val, h2⟩) := by
      refine Shape.idx3_ext ?_ ?_ ?_ <;> rw [ValueKit.rect_emb_unit_val] <;> simp [k0_off2_eq, h0] <;> omega
    unfold packed
    rw [dif_neg h, hc]
    exact (congrArg _ he).trans (store_at _ _ _)

/-- Device `d`'s slot `j`, at share `q`, holding `f` there. -/
def slotPts (d j : Dev nD) (q : PosShare TreeShare) (f : Buf (Elt F) ((d : Thread nD τ).loc cc0_scratch0)) : sProp 𝕄 :=
  ((d : Thread nD τ).loc cc0_scratch0) ↦[slotSet j]{q} f

instance slotPts_storable (d j : Dev nD) (q) (f) : BI.Storable (upEmb : UEmb _ 𝕄) (slotPts (F := F) d j q f) := by unfold slotPts; infer_instance

/-- Holding a slot is holding it through its view. -/
theorem slotPts_view (d j : Dev nD) (q : PosShare TreeShare) (f : Buf (Elt F) ((d : Thread nD τ).loc cc0_scratch0)) :
    slotPts d j q f = ((slotM j).view.loc (d : Thread nD τ) ↦[(slotM j).view.set]{q} f : sProp 𝕄) := by
  rw [slot_set]; rfl

/-- Copying a slot whole makes the destination's slot agree with the source's. -/
theorem copied (j : Dev nD) (fd fs : (cc0_scratch0 : Ref sig .tc).ty.Contents (Elt F)) (i : BufC) (hi : i ∈ (slotM j).view.set) :
    (slotM j).view.write (Elt F) fd ((slotM j).view.read (Elt F) fs) Finset.univ i = fs i := by
  obtain ⟨x, -, rfl⟩ := Finset.mem_map.mp hi
  exact View.eq_of_read_eq (v := (slotM j).view) (x := x) (View.read_write_of_mem (v := (slotM j).view) (Val := Elt F) fd _ (Finset.mem_univ x))

/-! ## The schedule -/

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- The peer a copy semaphore belongs to. -/
def peerOf (q : DmaSem sig) : Dev nD := ⟨(q.val + 2) % 8, Nat.mod_lt _ (by decide)⟩

/-- A send counter names its peer, -/
theorem peerOf_send : ∀ j : Dev nD, peerOf (sendS j) = j := by decide +kernel
/-- and so does a receive counter. -/
theorem peerOf_recv : ∀ j : Dev nD, peerOf (recvS j) = j := by decide +kernel

/-- Device `d`'s signal hands `c` device `d`'s slot for `c`'s weights. -/
def barPay (c d : Dev nD) : sProp 𝕄 := iprop(∃ f, slotPts d c fullShare f)
/-- The arrival of device `j`'s copy hands `c` its slot `j`, filled. -/
def recvPay (c j : Dev nD) : sProp 𝕄 := slotPts c j fullShare (packed m)
/-- The end of `c`'s copy to `j` hands back the share of `c`'s own slot the copy read. -/
def sendPay (c j : Dev nD) : sProp 𝕄 := slotPts c c (Transfers.shareTok fullShare 8 j) (packed m)

/-- One round, round 0: a device's barrier cell is paid one unit by each peer, its receive cell `j` one slot's credit by
    device `j`'s copy, its send cell `j` the same by its own copy to `j`; it exchanges nothing with itself. -/
def exRd : Rounds.Schedule (GSem nD τ sig) (Dev nD) 𝕄 where
  duties g r := if r = 0 ∧ g.1.2 = .tc then
      (match g.2 with
        | .reg s => if s = barS then Finset.univ.erase g.1.1 else ∅
        | .dma q => if 6 ≤ q.val ∧ peerOf q ≠ g.1.1 then {peerOf q} else ∅)
    else ∅
  unitless _ := False
  amount g _ _ := match g.2 with
    | .reg _ => 1
    | .dma _ => N
  payload g _ d := match g.2 with
    | .reg _ => barPay g.1.1 d
    | .dma q => if q.val < 14 then sendPay m g.1.1 (peerOf q) else recvPay m g.1.1 (peerOf q)
  amount_pos g _ _ _ := by
    rcases g with ⟨t, s | q⟩
    · exact Nat.one_pos
    · exact N_pos

instance exRd_payload_storable (g : GSem nD τ sig) (r : ℕ) (d : Dev nD) :
    BI.Storable (upEmb : UEmb _ 𝕄) ((exRd (F := F) m).payload g r d) := by
  rcases g with ⟨t, s | q⟩
  · show BI.Storable upEmb (barPay t.1 d)
    unfold barPay; infer_instance
  · show BI.Storable upEmb (if q.val < 14 then sendPay m t.1 (peerOf q) else recvPay m t.1 (peerOf q))
    unfold sendPay recvPay
    split <;> infer_instance

section Sched
variable (c j : Dev nD)

/-- The two kinds of counters are told apart by their numbers. -/
theorem send_lt : (sendS j).val < 14 := by have := j.isLt; simp only [nD] at this; show 6 + j.val < 14; omega
/-- the receive counters come after the send counters, -/
theorem recv_ge : ¬ (recvS j).val < 14 := by show ¬ 14 + j.val < 14; omega
/-- the send counters start at 6, -/
theorem send_ge : 6 ≤ (sendS j).val := Nat.le_add_right _ _
/-- and so the receive counters lie above 6 too. -/
theorem recv_ge6 : 6 ≤ (recvS j).val := by show 6 ≤ 14 + j.val; omega

/-- The barrier counter of a device is paid by its seven peers, -/
theorem duties_bar : (exRd (F := F) m).duties (barCell c) 0 = Finset.univ.erase c := by
  dsimp only [exRd]; rw [if_pos ⟨rfl, rfl⟩]; exact if_pos rfl
/-- a send counter by its peer, -/
theorem duties_send (h : j ≠ c) : (exRd (F := F) m).duties (sendCell c j) 0 = {j} := by
  dsimp only [exRd]; rw [if_pos ⟨rfl, rfl⟩, peerOf_send]; exact if_pos ⟨send_ge j, h⟩
/-- a receive counter by its source, -/
theorem duties_recv (h : j ≠ c) : (exRd (F := F) m).duties (recvCell c j) 0 = {j} := by
  dsimp only [exRd]; rw [if_pos ⟨rfl, rfl⟩, peerOf_recv]; exact if_pos ⟨recv_ge6 j, h⟩
/-- and those of a device towards itself by nobody, -/
theorem duties_send_self : ∀ r, 0 ≤ r → (exRd (F := F) m).duties (sendCell c c) r = ∅ := fun r _ => by
  dsimp only [exRd]; rw [peerOf_send]; split
  · exact if_neg fun h => h.2 rfl
  · rfl
/-- neither kind. -/
theorem duties_recv_self : ∀ r, 0 ≤ r → (exRd (F := F) m).duties (recvCell c c) r = ∅ := fun r _ => by
  dsimp only [exRd]; rw [peerOf_recv]; split
  · exact if_neg fun h => h.2 rfl
  · rfl
/-- After the first round nothing is due. -/
theorem duties_later (g : GSem nD τ sig) : ∀ r, 1 ≤ r → (exRd (F := F) m).duties g r = ∅ :=
  fun r hr => by dsimp only [exRd]; exact if_neg fun h => by omega

/-- What each payment hands over: at the barrier the payer's slot for this device, -/
theorem payload_bar (d : Dev nD) : (exRd (F := F) m).payload (barCell c) 0 d = barPay c d := rfl
/-- at a send counter the share of the slot sent, -/
theorem payload_send (d : Dev nD) : (exRd (F := F) m).payload (sendCell c j) 0 d = sendPay m c j := by
  dsimp only [exRd]; rw [if_pos (send_lt j), peerOf_send]
/-- at a receive counter the slot that arrived. -/
theorem payload_recv (d : Dev nD) : (exRd (F := F) m).payload (recvCell c j) 0 d = recvPay m c j := by
  dsimp only [exRd]; rw [if_neg (recv_ge j), peerOf_recv]

/-- A barrier counter awaits seven, -/
theorem expect_bar : (exRd (F := F) m).expect (barCell c) 0 = 7 := by
  unfold Schedule.expect Schedule.amountOf
  rw [duties_bar]
  have h : ∀ d ∈ Finset.univ.erase c, (exRd (F := F) m).amount (barCell c) 0 d = 1 := fun _ _ => rfl
  rw [Finset.sum_congr rfl h, Finset.sum_const, Finset.card_erase_of_mem (Finset.mem_univ _)]
  rfl
/-- a send counter one copy, -/
theorem expect_send (h : j ≠ c) : (exRd (F := F) m).expect (sendCell c j) 0 = N := by
  unfold Schedule.expect Schedule.amountOf; rw [duties_send m c j h, Finset.sum_singleton]; rfl
/-- a receive counter one copy. -/
theorem expect_recv (h : j ≠ c) : (exRd (F := F) m).expect (recvCell c j) 0 = N := by
  unfold Schedule.expect Schedule.amountOf; rw [duties_recv m c j h, Finset.sum_singleton]; rfl

/-- All that a wait hands over: at the barrier, -/
theorem rest_bar : bigSep ((exRd (F := F) m).duties (barCell c) 0 \ ∅) (fun d => (exRd (F := F) m).payload (barCell c) 0 d)
    = bigSep (Finset.univ.erase c) fun d => barPay c d := by
  rw [Finset.sdiff_empty, duties_bar]
  exact bigSep_congr fun d _ => payload_bar m c d
/-- at a send counter, -/
theorem rest_send (h : j ≠ c) : bigSep ((exRd (F := F) m).duties (sendCell c j) 0 \ ∅) (fun d => (exRd (F := F) m).payload (sendCell c j) 0 d) = sendPay m c j := by
  rw [Finset.sdiff_empty, duties_send m c j h, bigSep_singleton, payload_send]
/-- at a receive counter. -/
theorem rest_recv (h : j ≠ c) : bigSep ((exRd (F := F) m).duties (recvCell c j) 0 \ ∅) (fun d => (exRd (F := F) m).payload (recvCell c j) 0 d) = recvPay m c j := by
  rw [Finset.sdiff_empty, duties_recv m c j h, bigSep_singleton, payload_recv]

end Sched

/-! ## What each core owes; the levels -/

/-- What `c` owes its peers' receive cells with its last `n` copies to come. -/
def owesCopies (c : Dev nD) : ℕ → CellTallies nD τ sig Unit
  | 0 => 0
  | n + 1 => owesCopies c n + tallyAt (recvCell (ahead c (7 - n)) c) () N
/-- The same, and its peers' barrier cells, with its last `n` signals to come. -/
def owesSignals (c : Dev nD) : ℕ → CellTallies nD τ sig Unit
  | 0 => owesCopies c 7
  | n + 1 => owesSignals c n + tallyAt (barCell (ahead c (7 - n))) () 1
/-- What `c` owes at launch. -/
def O₀ (c : Dev nD) : CellTallies nD τ sig Unit := owesSignals c 7

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if q.val < 14 then 0 else 2

/-- Only the tensor cores' counters have levels: -/
theorem L_of_ne (g : GSem nD τ sig) (h : g.1.2 ≠ .tc) : L g = ∅ := if_neg h
/-- each has one. -/
theorem L_tc (c : Dev nD) (sm : SemLoc sig) : L ((c : Thread nD τ), sm) = {()} := if_pos rfl
/-- The barrier lies at level 1, -/
theorem lv_bar (c : Dev nD) : lv (barCell c) () = 1 := rfl
/-- the receive counters at level 2. -/
theorem lv_recv (c j : Dev nD) : lv (recvCell c j) () = 2 := if_neg (recv_ge j)

/-- The copies are owed to receive counters only, -/
theorem owesCopies_pos {c : Dev nD} {g : GSem nD τ sig} {u : Unit} : ∀ {n : ℕ}, 0 < owesCopies c n g u → ∃ d, g = recvCell d c
  | 0, h => absurd h (by unfold owesCopies; rw [Pi.zero_apply, Finsupp.zero_apply]; exact Nat.lt_irrefl 0)
  | n + 1, h => by
    unfold owesCopies at h
    rw [Pi.add_apply, Finsupp.add_apply, tallyAt_apply] at h
    by_cases hg : g = recvCell (ahead c (7 - n)) c ∧ u = ()
    · exact ⟨_, hg.1⟩
    · rw [if_neg hg, Nat.add_zero] at h; exact owesCopies_pos h
/-- signals and copies to receive and barrier counters only. -/
theorem owesSignals_pos {c : Dev nD} {g : GSem nD τ sig} {u : Unit} : ∀ {n : ℕ}, 0 < owesSignals c n g u → (∃ d, g = recvCell d c) ∨ ∃ d, g = barCell d
  | 0, h => Or.inl (owesCopies_pos (n := 7) h)
  | n + 1, h => by
    unfold owesSignals at h
    rw [Pi.add_apply, Finsupp.add_apply, tallyAt_apply] at h
    by_cases hg : g = barCell (ahead c (7 - n)) ∧ u = ()
    · exact Or.inr ⟨_, hg.1⟩
    · rw [if_neg hg, Nat.add_zero] at h; exact owesSignals_pos h

/-- A wait for a staging copy, whatever of the exchange is still owed. -/
theorem mayWait_stage (c : Dev nD) (q : DmaSem sig) (hq : q.val < 14) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; dsimp only [lv]; rw [if_pos hq]) (fun g u hg => ?_)
    · rcases owesSignals_pos (n := 7) hg with ⟨d, rfl⟩ | ⟨d, rfl⟩ <;> exact Finset.mem_singleton_self _
    · rcases owesSignals_pos (n := 7) hg with ⟨d, rfl⟩ | ⟨d, rfl⟩
      · show 0 < lv (recvCell d c) (); rw [lv_recv]; decide
      · show 0 < lv (barCell d) (); rw [lv_bar]; decide
  · rw [MayWait_zero]; iintro -; iempintro

/-- At its barrier wait a device owes receive credits only: receive cells, above its barrier cell. -/
theorem mayWait_bar (c : Dev nD) : (levAts L lv : sProp 𝕄) ⊢ MayWait (c : Thread nD τ) (.reg barS) () (owesCopies c 7) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact le_of_eq (lv_bar c)) (fun g u hg => ?_)
  · obtain ⟨d, rfl⟩ := owesCopies_pos hg; exact Finset.mem_singleton_self _
  · obtain ⟨d, rfl⟩ := owesCopies_pos hg
    show 1 < lv (recvCell d c) (); rw [lv_recv]; decide

end Cert.Exchange

end
-- ==== Proof.Steps.lean ====
/-
The exchange, one message at a time: what a device holds with some of its signals, copies and waits made, and the rule
for making the next one.
-/
module

public import proofs.«01_k».proof.Proof.Schedule

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells of one device, indexed -/

/-- The 17 semaphores of a device: its barrier, its 8 send and its 8 receive semaphores. -/
def csem (k : Fin 17) : SemLoc sig :=
  if k.val = 0 then .reg barS else .dma ⟨5 + k.val, by have := k.isLt; show _ < 22; omega⟩
abbrev kcell (ck : Dev nD × Fin 17) : GSem nD τ sig := ((ck.1 : Thread nD τ), csem ck.2)
def sendIx (j : Dev nD) : Fin 17 := ⟨1 + j.val, by have := j.isLt; simp only [nD] at this; omega⟩
def recvIx (j : Dev nD) : Fin 17 := ⟨9 + j.val, by have := j.isLt; simp only [nD] at this; omega⟩

/-- The counters by their numbers: sending, -/
theorem csem_send : ∀ j : Dev nD, csem (sendIx j) = .dma (sendS j) := by decide +kernel
/-- receiving, -/
theorem csem_recv : ∀ j : Dev nD, csem (recvIx j) = .dma (recvS j) := by decide +kernel
/-- the barrier of a device, -/
theorem kcell_bar (c : Dev nD) : kcell (c, 0) = barCell c := rfl
/-- its send counters, -/
theorem kcell_send (c j : Dev nD) : kcell (c, sendIx j) = sendCell c j := Prod.ext rfl (csem_send j)
/-- its receive counters. -/
theorem kcell_recv (c j : Dev nD) : kcell (c, recvIx j) = recvCell c j := Prod.ext rfl (csem_recv j)

/-- Every cell's invariant, under the names `K`, and that it has reached its round 0. -/
def records (K : Dev nD × Fin 17 → ℕ) : sProp 𝕄 :=
  iprop((bigSep Finset.univ fun ck : Dev nD × Fin 17 => cellInv ER (exRd m) (K ck) (kcell ck))
    ∗ bigSep Finset.univ fun ck : Dev nD × Fin 17 => reached ER (kcell ck) 0)

instance records_persistent (K : Dev nD × Fin 17 → ℕ) : BI.Persistent (records m K) := by unfold records; infer_instance

/-- The record of one counter, taken from all: any, -/
theorem record_at (K : Dev nD × Fin 17 → ℕ) (ck : Dev nD × Fin 17) :
    records m K ⊢ iprop(cellInv ER (exRd m) (K ck) (kcell ck) ∗ reached ER (kcell ck) 0) := by
  unfold records
  exact BI.sep_mono (bigSep_elim (Finset.mem_univ ck)) (bigSep_elim (Finset.mem_univ ck))
/-- the barrier's, -/
theorem record_bar (K : Dev nD × Fin 17 → ℕ) (c : Dev nD) :
    records m K ⊢ iprop(cellInv ER (exRd m) (K (c, 0)) (barCell c) ∗ reached ER (barCell c) 0) := record_at m K (c, 0)
/-- a send counter's, -/
theorem record_send (K : Dev nD × Fin 17 → ℕ) (c j : Dev nD) :
    records m K ⊢ iprop(cellInv ER (exRd m) (K (c, sendIx j)) (sendCell c j) ∗ reached ER (sendCell c j) 0) := by
  have h := record_at m K (c, sendIx j); rwa [kcell_send] at h
/-- a receive counter's. -/
theorem record_recv (K : Dev nD × Fin 17 → ℕ) (c j : Dev nD) :
    records m K ⊢ iprop(cellInv ER (exRd m) (K (c, recvIx j)) (recvCell c j) ∗ reached ER (recvCell c j) 0) := by
  have h := record_at m K (c, recvIx j); rwa [kcell_recv] at h

/-! ## Which peers are done -/

/-- The peers the first `n` messages went to. -/
def gone (c : Dev nD) (n : ℕ) : Finset (Dev nD) := ((Finset.Ioc 0 n).image fun k => ahead c k)
/-- The peers the first `n` waits heard from. -/
def came (c : Dev nD) (n : ℕ) : Finset (Dev nD) := ((Finset.Ioc 0 n).image fun k => behind c k)

/-- At the start nothing is sent, -/
theorem gone_zero (c : Dev nD) : gone c 0 = ∅ := rfl
/-- after seven copies everything. -/
theorem gone_seven : ∀ c : Dev nD, gone c 7 = Finset.univ.erase c := by decide +kernel
/-- At the start nothing has arrived, -/
theorem came_zero (c : Dev nD) : came c 0 = ∅ := rfl
/-- after seven waits everything. -/
theorem came_seven : ∀ c : Dev nD, came c 7 = Finset.univ.erase c := by decide +kernel
/-- Each copy adds its peer, -/
theorem gone_succ : ∀ (c : Dev nD) (n : Fin 7), gone c (n.val + 1) = insert (ahead c (n.val + 1)) (gone c n.val) := by decide +kernel
/-- a new one. -/
theorem gone_new : ∀ (c : Dev nD) (n : Fin 7), ahead c (n.val + 1) ∉ gone c n.val := by decide +kernel
/-- Each wait adds its source, -/
theorem came_succ : ∀ (c : Dev nD) (n : Fin 7), came c (n.val + 1) = insert (behind c (n.val + 1)) (came c n.val) := by decide +kernel
/-- which is then among those that came, -/
theorem came_mem (c : Dev nD) (n : Fin 7) : behind c (n.val + 1) ∈ came c (n.val + 1) := by rw [came_succ]; exact Finset.mem_insert_self _ _
/-- and was not before. -/
theorem came_new : ∀ (c : Dev nD) (n : Fin 7), behind c (n.val + 1) ∉ came c n.val := by decide +kernel

/-- One conjunct taken out of many, -/
theorem bigSep_take {I : Type} [DecidableEq I] {s : Finset I} {i : I} (h : i ∈ s) (Φ : I → sProp 𝕄) :
    bigSep s Φ = iprop(Φ i ∗ bigSep (s.erase i) Φ) := BI.bigSep_erase h
/-- and put back. -/
theorem bigSep_put {I : Type} [DecidableEq I] {s : Finset I} {i : I} (h : i ∉ s) (Φ : I → sProp 𝕄) :
    bigSep (insert i s) Φ = iprop(Φ i ∗ bigSep s Φ) := BI.bigSep_insert h

/-- The next peer's conjunct taken from those left to address, -/
theorem take_go (c : Dev nD) (n : Fin 7) (Φ : Dev nD → sProp 𝕄) :
    bigSep (toGo c n.val) Φ = iprop(Φ (ahead c (n.val + 1)) ∗ bigSep (toGo c (n.val + 1)) Φ) := by
  rw [bigSep_take (ahead_mem c n), toGo_succ]
/-- the next source's from those left to wait for, -/
theorem take_come (c : Dev nD) (n : Fin 7) (Φ : Dev nD → sProp 𝕄) :
    bigSep (toCome c n.val) Φ = iprop(Φ (behind c (n.val + 1)) ∗ bigSep (toCome c (n.val + 1)) Φ) := by
  rw [bigSep_take (behind_mem c n), toCome_succ]
/-- the next peer's put to those addressed, -/
theorem put_gone (c : Dev nD) (n : Fin 7) (Φ : Dev nD → sProp 𝕄) :
    bigSep (gone c (n.val + 1)) Φ = iprop(Φ (ahead c (n.val + 1)) ∗ bigSep (gone c n.val) Φ) := by
  rw [gone_succ, bigSep_put (gone_new c n)]
/-- and the next source's to those that came. -/
theorem put_came (c : Dev nD) (n : Fin 7) (Φ : Dev nD → sProp 𝕄) :
    bigSep (came c (n.val + 1)) Φ = iprop(Φ (behind c (n.val + 1)) ∗ bigSep (came c n.val) Φ) := by
  rw [came_succ, bigSep_put (came_new c n)]

/-- Each signal lowers what is owed by one, -/
theorem owesSignals_step (c : Dev nD) (n : Fin 7) :
    owesSignals c (7 - n.val) = owesSignals c (7 - (n.val + 1)) + tallyAt (barCell (ahead c (n.val + 1))) () 1 := by
  fin_cases n <;> rfl
/-- and each copy by one copy. -/
theorem owesCopies_step (c : Dev nD) (n : Fin 7) :
    owesCopies c (7 - n.val) = owesCopies c (7 - (n.val + 1)) + tallyAt (recvCell (ahead c (n.val + 1)) c) () N := by
  fin_cases n <;> rfl

/-! ## The states -/

/-- After `n` signals: what is owed, and for each peer still to be signalled the token of the payment and the slot it hands over. -/
def sigState (c : Dev nD) (n : ℕ) : sProp 𝕄 :=
  iprop((∃ W, owes (c : Thread nD τ) (owesSignals c (7 - n)) W)
    ∗ bigSep (toGo c n) fun d => iprop(dutyTok ER (barCell d) 0 c ∗ barPay d c))

/-- After `n` copies: what is owed; for each peer still to be sent to, the two tokens, the peer's slot and the share of the
    own slot the copy reads; for each copy under way, the credit its end will bring. -/
def sendState (c : Dev nD) (n : ℕ) : sProp 𝕄 :=
  iprop((∃ W, owes (c : Thread nD τ) (owesCopies c (7 - n)) W)
    ∗ (bigSep (toGo c n) fun d => iprop(dutyTok ER (recvCell d c) 0 c ∗ dutyTok ER (sendCell c d) 0 d ∗ barPay c d ∗ sendPay m c d))
    ∗ bigSep (gone c n) fun d => cred (tallyAt (sendCell c d) () N))

/-- After `n` arrivals: for each peer still to hear from, the position and the credit; for each heard from, its weights. -/
def recvState (c : Dev nD) (n : ℕ) : sProp 𝕄 :=
  iprop((∃ W, owes (c : Thread nD τ) 0 W)
    ∗ (bigSep (toCome c n) fun j => iprop(atPos ER (recvCell c j) 0 ∅ 0 ∗ cred (tallyAt (recvCell c j) () N)))
    ∗ bigSep (came c n) fun j => iprop(atPos ER (recvCell c j) 1 ∅ 0 ∗ recvPay m c j))

/-- After `n` waits for the own copies: for each still to end, the position and the credit; for each ended, the share back. -/
def doneState (c : Dev nD) (n : ℕ) : sProp 𝕄 :=
  iprop((∃ W, owes (c : Thread nD τ) 0 W)
    ∗ (bigSep (toGo c n) fun d => iprop(atPos ER (sendCell c d) 0 ∅ 0 ∗ cred (tallyAt (sendCell c d) () N)))
    ∗ bigSep (gone c n) fun d => iprop(atPos ER (sendCell c d) 1 ∅ 0 ∗ sendPay m c d))

/-! ## The steps -/

section Steps

variable (K : Dev nD × Fin 17 → ℕ) (c : Dev nD)

/-- The next signal. -/
theorem step_signal (n : Fin 7) {dev : Dev nD} (hdev : dev = ahead c (n.val + 1)) {a : ℕ} (ha : a = 1)
    {α : Type} {Q : α → sProp 𝕄} {k : PUnit → Prog (TpuEff nD τ sig (Elt F) Λ₀ .tc) α} :
    iprop(records m K ∗ sigState (F := F) c n.val)
      ⊢ iprop((sigState (F := F) c (n.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dev : Thread nD τ) barS a) k) Q) := by
  subst hdev ha
  unfold sigState
  rw [take_go]
  iintro ⟨#HR, ⟨%W, HO⟩, ⟨Htok, Hpay⟩, Hrest⟩ Hk
  ihave Hr := (record_bar m K (ahead c (n.val + 1))) $$ HR
  icases Hr with ⟨#HI, #Hre⟩
  iapply (Rounds.wp_signal 𝒱₀ ER (exRd m) (c : Thread nD τ) none (dst := (ahead c (n.val + 1) : Thread nD τ)) (κ := K (ahead c (n.val + 1), 0))
      (d := c) (by rw [duties_bar]; exact Finset.mem_erase.mpr ⟨(ahead_ne c n).symm, Finset.mem_univ _⟩) rfl ()
      (owesSignals c (7 - (n.val + 1))) (owesSignals_step c n)) $$ [HO Htok Hpay]
  · isplitr; · iexact HI
    isplitl [HO]; · iexact HO
    isplitl [Htok]; · iexact Htok
    isplitl [Hpay]; · rw [payload_bar]; iexact Hpay
    iexact Hre
  iintro HO
  iapply Hk
  isplitl [HO]; · iexists W; iexact HO
  iexact Hrest

/-- The wait for all seven peers' signals: their slots for this device's weights. -/
theorem step_barrier {a : ℕ} (ha : a = 7)
    {α : Type} {Q : α → sProp 𝕄} {k : PUnit → Prog (TpuEff nD τ sig (Elt F) Λ₀ .tc) α} :
    iprop(records m K ∗ levAts L lv ∗ atPos ER (barCell c) 0 ∅ 0 ∗ cred (tallyAt (barCell c) () 7) ∗ sigState (F := F) c 7)
      ⊢ iprop((((∃ W, owes (c : Thread nD τ) (owesCopies c 7) W) ∗ atPos ER (barCell c) 1 ∅ 0 ∗ bigSep (Finset.univ.erase c) fun d => barPay c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold sigState
  iintro ⟨#HR, #Hlev, Hat, Hcr, ⟨%W, HO⟩, -⟩ Hk
  ihave Hr := (record_bar m K c) $$ HR
  icases Hr with ⟨#HI, -⟩
  iapply (Rounds.wp_wait_rest_token 𝒱₀ ER (exRd m) (c : Thread nD τ) none (κ := K (c, 0))
      (wpE_semWait_eq 𝒱₀ (c : Thread nD τ) none Set.univ) (Set.mem_univ _) () (O := owesCopies c 7) (W := W) (R := 0) (m := 0) (T := ∅)
      (by rw [expect_bar])) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The next copy of the own slot. -/
theorem step_send (n : Fin 7) {dev : Dev nD} (hdev : dev = ahead c (n.val + 1))
    {src dst : Memref sig .tc .vmem S1024x256 .bf16} (hs : src = slotM c) (hd : dst = slotM c)
    {sS sR : DmaSem sig} (hS : sS = sendS (ahead c (n.val + 1))) (hR : sR = recvS c)
    {hsc : (dst : Memref sig (Dev.tc dev : Thread nD τ).2.kind .vmem S1024x256 .bf16).view.ref.isScScratch = false}
    {hsrc : src.view.WordExact} {hdst : (dst : Memref sig (Dev.tc dev : Thread nD τ).2.kind .vmem S1024x256 .bf16).view.WordExact}
    {hsem : DmaTarget.Typed .vmem (.dma sR) (.remote (Dev.tc dev : Thread nD τ) dst (.dma sS) hsc)}
    {α : Type} {Q : α → sProp 𝕄} {k : PUnit → Prog (TpuEff nD τ sig (Elt F) Λ₀ .tc) α} :
    iprop(records m K ∗ sendState m c n.val)
      ⊢ iprop((sendState m c (n.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dev : Thread nD τ) dst (.dma sS) hsc) (.dma sR) hsrc hdst hsem) k) Q) := by
  subst hdev hs hd hS hR
  unfold sendState
  rw [take_go, put_gone]
  iintro ⟨#HR, ⟨%W, HO⟩, ⟨⟨Ht1, Ht2, Hdst, Hsrc⟩, Hrest⟩, Hgone⟩ Hk
  ihave Hr := (record_send m K c (ahead c (n.val + 1))) $$ HR
  icases Hr with ⟨#HI1, #Hr1⟩
  ihave Hr := (record_recv m K (ahead c (n.val + 1)) c) $$ HR
  icases Hr with ⟨#HI2, #Hr2⟩
  unfold barPay sendPay
  icases Hdst with ⟨%fd, Hdst⟩
  ihave Hdst := (Entails.of_eq (slotPts_view (ahead c (n.val + 1)) c fullShare fd)) $$ Hdst
  ihave Hsrc := (Entails.of_eq (slotPts_view c c _ (packed m))) $$ Hsrc
  iapply (Rounds.wp_send_pointsTo 𝒱₀ ER (exRd m) (c : Thread nD τ) none (c' := (ahead c (n.val + 1) : Thread nD τ)) (src := slotM c) (dst := slotM c)
      (sS := .dma (sendS (ahead c (n.val + 1)))) (sem := .dma (recvS c)) (q := Transfers.shareTok fullShare 8 (ahead c (n.val + 1))) (fs := packed m) (κ₁ := K (c, sendIx (ahead c (n.val + 1)))) (κ₂ := K (ahead c (n.val + 1), recvIx c))
      (r₁ := 0) (r₂ := 0) (d₁ := ahead c (n.val + 1)) (d₂ := c) (fd := fd)
      (by rw [duties_send m c _ (ahead_ne c n)]; exact Finset.mem_singleton_self _)
      (by rw [duties_recv m _ c (ahead_ne c n).symm]; exact Finset.mem_singleton_self _)
      () () N (show (slotM c).view.dmaCredit = N from slot_credit c) rfl rfl (owesCopies c (7 - (n.val + 1))) (owesCopies_step c n) (W := W)
      (by rw [payload_send]; unfold sendPay; rw [slotPts_view])
      (by rw [payload_recv]; unfold recvPay; rw [slotPts_view]; exact Entails.of_eq (pointsTo_congr (copied c _ _)))) $$ [HO Ht1 Ht2 Hdst Hsrc]
  · isplitr; · iexact HI1
    isplitr; · iexact HI2
    isplitl [Hsrc]; · iexact Hsrc
    isplitl [Hdst]; · iexact Hdst
    isplitl [HO]; · iexact HO
    isplitl [Ht2]; · iexact Ht2
    isplitr; · iexact Hr1
    isplitl [Ht1]; · iexact Ht1
    iexact Hr2
  iintro ⟨Hcr, HO⟩
  iapply Hk
  isplitl [HO]; · iexists W; iexact HO
  isplitl [Hrest]; · iexact Hrest
  isplitl [Hcr]; · iexact Hcr
  iexact Hgone

/-- The wait for the next arrival. -/
theorem step_recv (n : Fin 7) {src dst : Memref sig .tc .vmem S1024x256 .bf16} (hd : dst = slotM (behind c (n.val + 1)))
    {sR : DmaSem sig} (hR : sR = recvS (behind c (n.val + 1))) {hsrc : src.view.WordExact} {hdst : dst.view.WordExact}
    {α : Type} {Q : α → sProp 𝕄} {k : PUnit → Prog (TpuEff nD τ sig (Elt F) Λ₀ .tc) α} :
    iprop(records m K ∗ recvState m c n.val)
      ⊢ iprop((recvState m c (n.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hd hR
  unfold recvState
  rw [take_come, put_came]
  iintro ⟨#HR, ⟨%W, HO⟩, ⟨⟨Hat, Hcr⟩, Hrest⟩, Hcame⟩ Hk
  ihave Hr := (record_recv m K c (behind c (n.val + 1))) $$ HR
  icases Hr with ⟨#HI, -⟩
  ihave Hcr := (Entails.of_eq (congrArg (fun a => (cred (tallyAt (recvCell c (behind c (n.val + 1))) () a) : sProp 𝕄)) (slot_credit (behind c (n.val + 1))).symm)) $$ Hcr
  iapply (Rounds.wp_wait_rest_token 𝒱₀ ER (exRd m) (c : Thread nD τ) none (κ := K (c, recvIx (behind c (n.val + 1))))
      (wpE_waitDma2_eq 𝒱₀ (c : Thread nD τ) none Set.univ) (Set.mem_univ _) () (O := 0) (W := W) (R := 0) (m := 0) (T := ∅)
      (by rw [expect_recv m c _ (behind_ne c n), Nat.zero_add]; exact slot_credit _)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_recv m c (behind c (n.val + 1)) (behind_ne c n))) $$ Hpay
  iapply Hk
  isplitl [HO]; · iexists _; iexact HO
  isplitl [Hrest]; · iexact Hrest
  isplitl [Hat Hp]
  · isplitl [Hat]; · iexact Hat
    iexact Hp
  iexact Hcame

/-- The wait for the end of the next own copy. -/
theorem step_done (n : Fin 7) {src dst : Memref sig .tc .vmem S1024x256 .bf16} (hd : dst = slotM c)
    {sS : DmaSem sig} (hS : sS = sendS (ahead c (n.val + 1))) {hsrc : src.view.WordExact} {hdst : dst.view.WordExact}
    {α : Type} {Q : α → sProp 𝕄} {k : PUnit → Prog (TpuEff nD τ sig (Elt F) Λ₀ .tc) α} :
    iprop(records m K ∗ doneState m c n.val)
      ⊢ iprop((doneState m c (n.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hd hS
  unfold doneState
  rw [take_go, put_gone]
  iintro ⟨#HR, ⟨%W, HO⟩, ⟨⟨Hat, Hcr⟩, Hrest⟩, Hgone⟩ Hk
  ihave Hr := (record_send m K c (ahead c (n.val + 1))) $$ HR
  icases Hr with ⟨#HI, -⟩
  ihave Hcr := (Entails.of_eq (congrArg (fun a => (cred (tallyAt (sendCell c (ahead c (n.val + 1))) () a) : sProp 𝕄)) (slot_credit c).symm)) $$ Hcr
  iapply (Rounds.wp_wait_rest_token 𝒱₀ ER (exRd m) (c : Thread nD τ) none (κ := K (c, sendIx (ahead c (n.val + 1))))
      (wpE_waitDma2_eq 𝒱₀ (c : Thread nD τ) none Set.univ) (Set.mem_univ _) () (O := 0) (W := W) (R := 0) (m := 0) (T := ∅)
      (by rw [expect_send m c _ (ahead_ne c n), Nat.zero_add]; exact slot_credit _)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_send m c (ahead c (n.val + 1)) (ahead_ne c n))) $$ Hpay
  iapply Hk
  isplitl [HO]; · iexists _; iexact HO
  isplitl [Hrest]; · iexact Hrest
  isplitl [Hat Hp]
  · isplitl [Hat]; · iexact Hat
    iexact Hp
  iexact Hgone

end Steps

/-! ## The loads -/

/-- Device `j`'s packed weights, as a load of its slot reads them. -/
def slotVal (j : Dev nD) : S1x1024x256.Idx → Elt F .bf16 := commM.view.readAt (Elt F) (slotR j).toLoadRect (packed m)

section Loads

variable (c : Dev nD)

/-- A load of a slot held at some share. -/
theorem step_load_slot (j : Dev nD) (q : PosShare TreeShare) {off : Fin 3 → ℕ} (h : off = ![j.val, 0, 0])
    {inb : ∀ a, off a + S1x1024x256.size a ≤ S8x1024x256.size a} {hl}
    {α : Type} {Q : α → sProp 𝕄} {k : (S1x1024x256.Idx → Elt F .bf16) → Prog (TpuEff nD τ sig (Elt F) Λ₀ .tc) α} :
    slotPts c j q (packed m)
      ⊢ iprop((slotPts c j q (packed m) -∗ wp frame (wpE (defs₀ (F := F)) 𝒱₀ (c : Thread nD τ) none) Set.univ (k (slotVal m j)) Q)
          -∗ wp frame (wpE (defs₀ (F := F)) 𝒱₀ (c : Thread nD τ) none) Set.univ
              (.op (.load commM (Rect.unit (s := S8x1024x256) off S1x1024x256.size inb).toLoadRect hl) k) Q) := by
  subst h
  exact wp_load_rect 𝒱₀ (c : Thread nD τ) none Set.univ (m := commM) (r := slotR j) (S := slotSet j) (by rw [show (commM.access (slotR j)).set = slotSet j from View.set_slice_whole _ _])

/-- A load of a slot that has arrived. -/
theorem step_load_came (n : ℕ) (j : Dev nD) (hj : j ∈ came c n) {off : Fin 3 → ℕ} (h : off = ![j.val, 0, 0])
    {inb : ∀ a, off a + S1x1024x256.size a ≤ S8x1024x256.size a} {hl}
    {α : Type} {Q : α → sProp 𝕄} {k : (S1x1024x256.Idx → Elt F .bf16) → Prog (TpuEff nD τ sig (Elt F) Λ₀ .tc) α} :
    recvState m c n
      ⊢ iprop((recvState m c n -∗ wp frame (wpE (defs₀ (F := F)) 𝒱₀ (c : Thread nD τ) none) Set.univ (k (slotVal m j)) Q)
          -∗ wp frame (wpE (defs₀ (F := F)) 𝒱₀ (c : Thread nD τ) none) Set.univ
              (.op (.load commM (Rect.unit (s := S8x1024x256) off S1x1024x256.size inb).toLoadRect hl) k) Q) := by
  unfold recvState
  rw [bigSep_take (s := came c n) hj]
  unfold recvPay
  iintro ⟨HO, Hto, ⟨Hat, Hpay⟩, Hrest⟩ Hk
  iapply (step_load_slot m c j fullShare h) $$ Hpay
  iintro Hpay
  iapply Hk
  isplitl [HO]; · iexact HO
  isplitl [Hto]; · iexact Hto
  isplitl [Hat Hpay]
  · isplitl [Hat]; · iexact Hat
    iexact Hpay
  iexact Hrest

end Loads

end Cert.Exchange

end
-- ==== Proof.Bundles.lean ====
/-
The body of the kernel between the exchange's steps: what it computes, what it starts from, what it ends with, and how
the states of the exchange are made from and turned into whole families.
-/
module

public import proofs.«01_k».proof.Proof.Steps

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The keys and the values as the kernel lays them out before it computes. -/
def kScr (c : Dev nD) : (cc0_scratch1 : Ref sig .tc).ty.Contents (Elt F) := k0_pay3 (kS m c)
def vScr (c : Dev nD) : (cc0_scratch2 : Ref sig .tc).ty.Contents (Elt F) := k0_pay5 (k0_pay4 (vS m c))

abbrev keyM : Memref sig .tc .vmem S8x32x64x64 .bf16 := Memref.whole cc0_scratch1
abbrev valM : Memref sig .tc .vmem S8x32x64x64 .bf16 := Memref.whole cc0_scratch2

/-- A device's heads lie within the rearranged keys and values. -/
theorem inbKV : ∀ (j : Dev nD) (a : Fin 4), (![j.val, 0, 0, 0] : Fin 4 → ℕ) a + S1x32x64x64.size a ≤ S8x32x64x64.size a := by decide +kernel
/-- The heads of device `j` in such a layout. -/
abbrev headsR (j : Dev nD) : Rect S8x32x64x64 := Rect.unit (s := S8x32x64x64) ![j.val, 0, 0, 0] S1x32x64x64.size (inbKV j)
def kVal (c j : Dev nD) : Vec F S1x32x64x64 .bf16 := keyM.view.readAt (Elt F) (headsR j).toLoadRect (kScr m c)
def vVal (c j : Dev nD) : Vec F S1x32x64x64 .bf16 := valM.view.readAt (Elt F) (headsR j).toLoadRect (vScr m c)

/-- The partial output of device `c` after the heads of its first `n` sources. -/
def accAt (c : Dev nD) : ℕ → FVec F S512x512 .f32
  | 0 => k0_pay7
  | n + 1 => k0_pay27 (k0_pay6 (xS m c)) (accAt c n) (slotVal m (behind c n)) (kVal m c (behind c n)) (vVal m c (behind c n))

/-- What device `c` stores to its result. -/
def outAt (c : Dev nD) : (cc0_stg5_0 : Ref sig .tc).ty.Contents (Elt F) :=
  shapeCast S2x256x512 (accAt m c 8) shapeCasts_S512x512_S2x256x512

/-! The kernel's text cuts each source's step into payloads at different places; each is the one step. -/
section Folds
variable (x : Vec F S2x256x512 .bf16) (q : FVec F S512x512 .bf16) (a : FVec F S512x512 .f32) (w : Vec F S1x1024x256 .bf16) (kk vv : Vec F S1x32x64x64 .bf16)
/-- Each step of the unrolled accumulation is the same function of its operands, however its text is cut up: step 0, -/
theorem fold0 : k0_pay13 a (k0_pay9 w) (k0_pay10 vv) (k0_pay11 x w kk) (k0_pay12 x w kk) = k0_pay27 (k0_pay6 x) a w kk vv := rfl
/-- step 1, -/
theorem fold1 : k0_pay17 q a (k0_pay15 w) (k0_pay16 w) (constant S512x256 .f32 0x00000000#32) kk vv = k0_pay27 q a w kk vv := rfl
/-- step 2, -/
theorem fold2 : k0_pay21 a (k0_pay19 w) (k0_pay20 q w kk vv) = k0_pay27 q a w kk vv := rfl
/-- step 3, -/
theorem fold3 : k0_pay26 a (k0_pay23 w) (k0_pay24 q w) (k0_pay25 kk) vv = k0_pay27 q a w kk vv := rfl
/-- step 5, -/
theorem fold5 : k0_pay33 a (k0_pay29 w) (k0_pay30 vv) (k0_pay31 q w kk) (k0_pay32 q w kk) = k0_pay27 q a w kk vv := rfl
/-- step 6, -/
theorem fold6 : k0_pay37 q a (k0_pay35 w) (k0_pay36 w) (constant S512x256 .f32 0x00000000#32) kk vv = k0_pay27 q a w kk vv := rfl
/-- and step 7, whose result is reshaped. -/
theorem fold7 : k0_pay41 a (k0_pay39 w) (k0_pay40 q w kk vv) = shapeCast S2x256x512 (k0_pay27 q a w kk vv) shapeCasts_S512x512_S2x256x512 := rfl
end Folds

/-- What the kernel's text stores is the fold of the one step over the eight sources. -/
theorem out_fold (c : Dev nD) :
    k0_pay41 (k0_pay37 (k0_pay6 (xS m c)) (k0_pay33 (k0_pay27 (k0_pay6 (xS m c)) (k0_pay26 (k0_pay21 (k0_pay17 (k0_pay6 (xS m c)) (k0_pay13 k0_pay7 (k0_pay9 (slotVal m c)) (k0_pay10 (vVal m c c)) (k0_pay11 (xS m c) (slotVal m c) (kVal m c c)) (k0_pay12 (xS m c) (slotVal m c) (kVal m c c))) (k0_pay15 (slotVal m (behind c 1))) (k0_pay16 (slotVal m (behind c 1))) (constant S512x256 .f32 0x00000000#32) (kVal m c (behind c 1)) (vVal m c (behind c 1))) (k0_pay19 (slotVal m (behind c 2))) (k0_pay20 (k0_pay6 (xS m c)) (slotVal m (behind c 2)) (kVal m c (behind c 2)) (vVal m c (behind c 2)))) (k0_pay23 (slotVal m (behind c 3))) (k0_pay24 (k0_pay6 (xS m c)) (slotVal m (behind c 3))) (k0_pay25 (kVal m c (behind c 3))) (vVal m c (behind c 3))) (slotVal m (behind c 4)) (kVal m c (behind c 4)) (vVal m c (behind c 4))) (k0_pay29 (slotVal m (behind c 5))) (k0_pay30 (vVal m c (behind c 5))) (k0_pay31 (k0_pay6 (xS m c)) (slotVal m (behind c 5)) (kVal m c (behind c 5))) (k0_pay32 (k0_pay6 (xS m c)) (slotVal m (behind c 5)) (kVal m c (behind c 5)))) (k0_pay35 (slotVal m (behind c 6))) (k0_pay36 (slotVal m (behind c 6))) (constant S512x256 .f32 0x00000000#32) (kVal m c (behind c 6)) (vVal m c (behind c 6))) (k0_pay39 (slotVal m (behind c 7))) (k0_pay40 (k0_pay6 (xS m c)) (slotVal m (behind c 7)) (kVal m c (behind c 7)) (vVal m c (behind c 7)))
      = outAt m c := by
  rw [fold7, fold6, fold5, fold3, fold2, fold1, fold0]
  unfold outAt
  simp only [accAt]
  rw [behind_zero]

/-! ## Loads of a block of heads -/

section Moves

variable (c : Dev nD)

/-- A load of one owner's keys. -/
theorem step_load_k (j : Dev nD) {off : Fin 4 → ℕ} (h : off = ![j.val, 0, 0, 0])
    {inb : ∀ a, off a + S1x32x64x64.size a ≤ S8x32x64x64.size a} {hl}
    {α : Type} {Q : α → sProp 𝕄} {k : (S1x32x64x64.Idx → Elt F .bf16) → Prog (TpuEff nD τ sig (Elt F) Λ₀ .tc) α} :
    (((c : Thread nD τ).loc cc0_scratch1) ↦{fullShare} kScr m c : sProp 𝕄)
      ⊢ iprop(((((c : Thread nD τ).loc cc0_scratch1) ↦{fullShare} kScr m c) -∗ wp frame (wpE (defs₀ (F := F)) 𝒱₀ (c : Thread nD τ) none) Set.univ (k (kVal m c j)) Q)
          -∗ wp frame (wpE (defs₀ (F := F)) 𝒱₀ (c : Thread nD τ) none) Set.univ
              (.op (.load keyM (Rect.unit (s := S8x32x64x64) off S1x32x64x64.size inb).toLoadRect hl) k) Q) := by
  subst h
  exact wp_load 𝒱₀ (c : Thread nD τ) none Set.univ (m := keyM) (Finset.subset_univ _)

/-- A load of one owner's values. -/
theorem step_load_v (j : Dev nD) {off : Fin 4 → ℕ} (h : off = ![j.val, 0, 0, 0])
    {inb : ∀ a, off a + S1x32x64x64.size a ≤ S8x32x64x64.size a} {hl}
    {α : Type} {Q : α → sProp 𝕄} {k : (S1x32x64x64.Idx → Elt F .bf16) → Prog (TpuEff nD τ sig (Elt F) Λ₀ .tc) α} :
    (((c : Thread nD τ).loc cc0_scratch2) ↦{fullShare} vScr m c : sProp 𝕄)
      ⊢ iprop(((((c : Thread nD τ).loc cc0_scratch2) ↦{fullShare} vScr m c) -∗ wp frame (wpE (defs₀ (F := F)) 𝒱₀ (c : Thread nD τ) none) Set.univ (k (vVal m c j)) Q)
          -∗ wp frame (wpE (defs₀ (F := F)) 𝒱₀ (c : Thread nD τ) none) Set.univ
              (.op (.load valM (Rect.unit (s := S8x32x64x64) off S1x32x64x64.size inb).toLoadRect hl) k) Q) := by
  subst h
  exact wp_load 𝒱₀ (c : Thread nD τ) none Set.univ (m := valM) (Finset.subset_univ _)

end Moves

/-! ## Slots -/

/-- The communication buffer is its eight slots. -/
theorem comm_slots (c : Dev nD) (f : Buf (Elt F) ((c : Thread nD τ).loc cc0_scratch0)) :
    (((c : Thread nD τ).loc cc0_scratch0) ↦{fullShare} f : sProp 𝕄) = bigSep Finset.univ fun j : Dev nD => slotPts c j fullShare f :=
  Ring.pointsTo_blocks (ℓ := (c : Thread nD τ).loc cc0_scratch0) (q := fullShare) slotSet slot_disj slot_cover f

/-- The own slot lent in eight parts, one for each copy and one left over; -/
theorem lend (c : Dev nD) : (slotPts c c fullShare (packed m) : sProp 𝕄)
    ⊢ iprop(slotPts c c (Transfers.shareDrop fullShare 8) (packed m) ∗ sendPay m c c ∗ bigSep (Finset.univ.erase c) fun j => sendPay m c j) := by
  unfold slotPts sendPay
  refine (Transfers.pointsTo_toks_split fullShare 8).trans (sep_mono_right (Entails.of_eq ?_))
  exact bigSep_take (Finset.mem_univ c) (fun i : Dev nD => slotPts c c (Transfers.shareTok fullShare 8 i) (packed m))
/-- and whole again. -/
theorem unlend (c : Dev nD) : iprop(slotPts c c (Transfers.shareDrop fullShare 8) (packed m) ∗ sendPay m c c ∗ bigSep (Finset.univ.erase c) fun j => sendPay m c j)
    ⊢ (slotPts c c fullShare (packed m) : sProp 𝕄) := by
  unfold slotPts sendPay
  refine Entails.trans (sep_mono_right (Entails.of_eq ?_)) (Transfers.pointsTo_toks_join fullShare 8)
  exact (bigSep_take (Finset.mem_univ c) (fun i : Dev nD => slotPts c c (Transfers.shareTok fullShare 8 i) (packed m))).symm

/-! ## Into and out of the states -/

section States

variable (K : Dev nD × Fin 17 → ℕ) (c : Dev nD)

/-- The signalling begins with everything owed and every barrier token in hand. -/
theorem sig_start : iprop((∃ W, owes (c : Thread nD τ) (O₀ c) W) ∗ (bigSep Finset.univ fun j => dutyTok ER (barCell j) 0 c)
      ∗ bigSep (Finset.univ.erase c) fun j => iprop(∃ f, slotPts c j fullShare f))
    ⊢ (sigState c 0 : sProp 𝕄) := by
  unfold sigState
  rw [bigSep_take (Finset.mem_univ c), toGo_zero, bigSep_sep']
  iintro ⟨HO, ⟨-, Ht⟩, Hs⟩
  isplitl [HO]; · iexact HO
  isplitl [Ht]; · iexact Ht
  iexact Hs

/-- The sending begins when all signals are out. -/
theorem send_start : iprop((∃ W, owes (c : Thread nD τ) (owesCopies c 7) W) ∗ (bigSep Finset.univ fun j => dutyTok ER (recvCell j c) 0 c)
      ∗ (bigSep Finset.univ fun j => dutyTok ER (sendCell c j) 0 j) ∗ (bigSep (Finset.univ.erase c) fun d => barPay c d)
      ∗ bigSep (Finset.univ.erase c) fun d => sendPay m c d)
    ⊢ (sendState m c 0 : sProp 𝕄) := by
  unfold sendState
  rw [bigSep_take (Finset.mem_univ c) (fun j => dutyTok ER (recvCell j c) 0 c), bigSep_take (Finset.mem_univ c) (fun j => dutyTok ER (sendCell c j) 0 j),
    toGo_zero, gone_zero, bigSep_sep', bigSep_sep', bigSep_sep', BI.bigSep_empty]
  iintro ⟨HO, ⟨-, Ht⟩, ⟨-, Hu⟩, Hb, Hs⟩
  isplitl [HO]; · iexact HO
  isplitl [Ht Hu Hb Hs]
  · isplitl [Ht]; · iexact Ht
    isplitl [Hu]; · iexact Hu
    isplitl [Hb]; · iexact Hb
    iexact Hs
  iempintro

/-- When all copies are out nothing is owed. -/
theorem send_end {n : ℕ} (hn : n = 7) : (sendState m c n : sProp 𝕄)
    ⊢ iprop((∃ W, owes (c : Thread nD τ) 0 W) ∗ bigSep (Finset.univ.erase c) fun d => cred (tallyAt (sendCell c d) () N)) := by
  subst hn
  unfold sendState
  rw [gone_seven]
  iintro ⟨HO, -, Hc⟩
  isplitl [HO]; · iexact HO
  iexact Hc

/-- The receiving begins with no slot arrived, -/
theorem recv_start : iprop((∃ W, owes (c : Thread nD τ) 0 W) ∗ (bigSep (Finset.univ.erase c) fun j => atPos ER (recvCell c j) 0 ∅ 0)
      ∗ bigSep (Finset.univ.erase c) fun j => cred (tallyAt (recvCell c j) () N))
    ⊢ (recvState m c 0 : sProp 𝕄) := by
  unfold recvState
  rw [toCome_zero, came_zero, bigSep_sep', BI.bigSep_empty]
  iintro ⟨HO, Ha, Hc⟩
  isplitl [HO]; · iexact HO
  isplitl [Ha Hc]
  · isplitl [Ha]; · iexact Ha
    iexact Hc
  iempintro

/-- and ends with all of them. -/
theorem recv_end {n : ℕ} (hn : n = 7) : (recvState m c n : sProp 𝕄)
    ⊢ iprop((∃ W, owes (c : Thread nD τ) 0 W) ∗ (bigSep (Finset.univ.erase c) fun j => atPos ER (recvCell c j) 1 ∅ 0)
      ∗ bigSep (Finset.univ.erase c) fun j => recvPay m c j) := by
  subst hn
  unfold recvState
  rw [toCome_seven, BI.bigSep_empty, came_seven, bigSep_sep']
  iintro ⟨HO, -, Ha, Hc⟩
  isplitl [HO]; · iexact HO
  isplitl [Ha]; · iexact Ha
  iexact Hc

/-- The waits for the sent copies begin with none done, -/
theorem done_start : iprop((∃ W, owes (c : Thread nD τ) 0 W) ∗ (bigSep (Finset.univ.erase c) fun j => atPos ER (sendCell c j) 0 ∅ 0)
      ∗ bigSep (Finset.univ.erase c) fun j => cred (tallyAt (sendCell c j) () N))
    ⊢ (doneState m c 0 : sProp 𝕄) := by
  unfold doneState
  rw [toGo_zero, gone_zero, bigSep_sep', BI.bigSep_empty]
  iintro ⟨HO, Ha, Hc⟩
  isplitl [HO]; · iexact HO
  isplitl [Ha Hc]
  · isplitl [Ha]; · iexact Ha
    iexact Hc
  iempintro

/-- and end with every share of the slot back. -/
theorem done_end {n : ℕ} (hn : n = 7) : (doneState m c n : sProp 𝕄)
    ⊢ iprop((∃ W, owes (c : Thread nD τ) 0 W) ∗ (bigSep (Finset.univ.erase c) fun j => atPos ER (sendCell c j) 1 ∅ 0)
      ∗ bigSep (Finset.univ.erase c) fun j => sendPay m c j) := by
  subst hn
  unfold doneState
  rw [toGo_seven, BI.bigSep_empty, gone_seven, bigSep_sep']
  iintro ⟨HO, -, Ha, Hc⟩
  isplitl [HO]; · iexact HO
  isplitl [Ha]; · iexact Ha
  iexact Hc

/-- A cell with no duty left closes: its counter is at zero. -/
theorem close_bar : iprop(records m K ∗ atPos ER (barCell c) 1 ∅ 0) ⊢ |={Set.univ}=> (semVal (barCell c) 0 : sProp 𝕄) := by
  iintro ⟨#HR, Ha⟩
  ihave Hr := (record_bar m K c) $$ HR
  icases Hr with ⟨#HI, -⟩
  iapply (Rounds.cell_close ER (exRd m) (Set.mem_univ (K (c, 0))) (fun h => h) (R := 1) (duties_later m (barCell c)))
  isplitr; · iexact HI
  iexact Ha
/-- A send counter whose duties are over can be closed at zero. -/
theorem close_send (j : Dev nD) {R : ℕ} (h : ∀ r, R ≤ r → (exRd (F := F) m).duties (sendCell c j) r = ∅) :
    iprop(records m K ∗ atPos ER (sendCell c j) R ∅ 0) ⊢ |={Set.univ}=> (semVal (sendCell c j) 0 : sProp 𝕄) := by
  iintro ⟨#HR, Ha⟩
  ihave Hr := (record_send m K c j) $$ HR
  icases Hr with ⟨#HI, -⟩
  iapply (Rounds.cell_close ER (exRd m) (Set.mem_univ (K (c, sendIx j))) (fun h => h) (R := R) h)
  isplitr; · iexact HI
  iexact Ha
/-- A receive counter whose duties are over can be closed at zero. -/
theorem close_recv (j : Dev nD) {R : ℕ} (h : ∀ r, R ≤ r → (exRd (F := F) m).duties (recvCell c j) r = ∅) :
    iprop(records m K ∗ atPos ER (recvCell c j) R ∅ 0) ⊢ |={Set.univ}=> (semVal (recvCell c j) 0 : sProp 𝕄) := by
  iintro ⟨#HR, Ha⟩
  ihave Hr := (record_recv m K c j) $$ HR
  icases Hr with ⟨#HI, -⟩
  iapply (Rounds.cell_close ER (exRd m) (Set.mem_univ (K (c, recvIx j))) (fun h => h) (R := R) h)
  isplitr; · iexact HI
  iexact Ha

/-- All send counters of a device are closed at zero, -/
theorem close_sends : iprop(records m K ∗ atPos ER (sendCell c c) 0 ∅ 0 ∗ bigSep (Finset.univ.erase c) fun j => atPos ER (sendCell c j) 1 ∅ 0)
    ⊢ |={Set.univ}=> (bigSep Finset.univ fun j : Dev nD => semVal (sendCell c j) 0 : sProp 𝕄) := by
  iintro ⟨#HR, Hc, Ho⟩
  imod (close_send m K c c (duties_send_self m c)) $$ [Hc] with Hc
  · isplitr; · iexact HR
    iexact Hc
  imod ((BI.bigSep_with_persistent fun j _ => close_send m K c j (duties_later m (sendCell c j))).trans (bigSep_fupd (Finset.univ.erase c) fun j : Dev nD => (semVal (sendCell c j) 0 : sProp 𝕄))) $$ [Ho] with Ho
  · isplitr; · iexact HR
    iexact Ho
  imodintro
  rw [bigSep_take (Finset.mem_univ c)]
  isplitl [Hc] <;> iassumption
/-- and all its receive counters. -/
theorem close_recvs : iprop(records m K ∗ atPos ER (recvCell c c) 0 ∅ 0 ∗ bigSep (Finset.univ.erase c) fun j => atPos ER (recvCell c j) 1 ∅ 0)
    ⊢ |={Set.univ}=> (bigSep Finset.univ fun j : Dev nD => semVal (recvCell c j) 0 : sProp 𝕄) := by
  iintro ⟨#HR, Hc, Ho⟩
  imod (close_recv m K c c (duties_recv_self m c)) $$ [Hc] with Hc
  · isplitr; · iexact HR
    iexact Hc
  imod ((BI.bigSep_with_persistent fun j _ => close_recv m K c j (duties_later m (recvCell c j))).trans (bigSep_fupd (Finset.univ.erase c) fun j : Dev nD => (semVal (recvCell c j) 0 : sProp 𝕄))) $$ [Ho] with Ho
  · isplitr; · iexact HR
    iexact Ho
  imodintro
  rw [bigSep_take (Finset.mem_univ c)]
  isplitl [Hc] <;> iassumption

/-- The buffer back whole, every slot filled. -/
theorem gather_slots : iprop(slotPts c c fullShare (packed m) ∗ bigSep (Finset.univ.erase c) fun j => recvPay m c j)
    ⊢ (((c : Thread nD τ).loc cc0_scratch0) ↦{fullShare} packed m : sProp 𝕄) := by
  rw [comm_slots, bigSep_take (Finset.mem_univ c) (fun j => slotPts c j fullShare (packed m))]
  exact .rfl

end States
end Cert.Exchange

end
-- ==== Proof.Body.lean ====
/-
The kernel body on one device: from its share of the launch to its result, one rule per memory operation.
-/
module

public import proofs.«01_k».proof.Proof.Bundles

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at launch: the arguments in memory, every counter at zero. -/
def s₀ : MemSt nD τ sig (Elt F) := ⟨m, fun _ => 0, ρ⟩

/-! ## The ghost state of one device -/

/-- The records, the positions on its own cells, and the tokens of the payments it makes. -/
def ghost (K : Dev nD × Fin 17 → ℕ) (c : Dev nD) : sProp 𝕄 :=
  iprop(records m K ∗ atPos ER (barCell c) 0 ∅ 0
    ∗ (bigSep Finset.univ fun j : Dev nD => atPos ER (sendCell c j) 0 ∅ 0)
    ∗ (bigSep Finset.univ fun j : Dev nD => atPos ER (recvCell c j) 0 ∅ 0)
    ∗ (bigSep Finset.univ fun j : Dev nD => dutyTok ER (barCell j) 0 c)
    ∗ (bigSep Finset.univ fun j : Dev nD => dutyTok ER (recvCell j c) 0 c)
    ∗ bigSep Finset.univ fun j : Dev nD => dutyTok ER (sendCell c j) 0 j)

/-- The ghost state with the credits of what the peers owe. -/
def start (c : Dev nD) : sProp 𝕄 :=
  iprop((∃ K, ghost m K c) ∗ cred (tallyAt (barCell c) () 7)
    ∗ (bigSep (Finset.univ.erase c) fun j : Dev nD => cred (tallyAt (recvCell c j) () N)) ∗ levAts L lv)

def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratches c)
def Φ₁ (c : Dev nD) : sProp 𝕄 :=
  iprop(scratches c ∗ (bigSep Finset.univ fun j : Dev nD => semVal (sendCell c j) 0)
    ∗ (bigSep Finset.univ fun j : Dev nD => semVal (recvCell c j) 0) ∗ semVal (barCell c) 0)

/-! ## The launch's bookkeeping -/

def t₀ : Fin cfg0.N := ⟨0, Nat.one_pos⟩
/-- The grid has one point. -/
theorem fin_N (t : Fin cfg0.N) : t = t₀ := by
  have h : t.val < 1 := t.isLt; exact Fin.ext (show t.val = 0 by omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => kS m c
    | ⟨3, _⟩ => vS m c
    | ⟨4, _⟩ => woS m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer through its own view is owning its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole loads and stores -/

/-- The offsets at which a whole buffer is read, of rank 2, -/
theorem z2 : (![0, 0] : Fin 2 → Nat) = fun _ => 0 := funext fun a => by fin_cases a <;> rfl
/-- of rank 3, -/
theorem z3 : (![0, 0, 0] : Fin 3 → Nat) = fun _ => 0 := funext fun a => by fin_cases a <;> rfl
/-- and of rank 4. -/
theorem z4 : (![0, 0, 0, 0] : Fin 4 → Nat) = fun _ => 0 := funext fun a => by fin_cases a <;> rfl

/-- Reading a staged input from its start is reading all of it: the rows of `x`, -/
theorem read_x (f : (cc0_stg0_0 : Ref sig .tc).ty.Contents (Elt F)) :
    (Memref.whole cc0_stg0_0 : Memref sig .tc .vmem S2x256x512 .bf16).view.readAt (Elt F) (Rect.unit (s := S2x256x512) ![0, 0, 0] S2x256x512.size inb_S2x256x512_S2x256x512_0_0_0).toLoadRect f = f :=
  Memref.readAt_unit_zero (Elt F) cc0_stg0_0 z3 _ f
/-- the columns of `Wq`, -/
theorem read_wq (f : (cc0_stg1_0 : Ref sig .tc).ty.Contents (Elt F)) :
    (Memref.whole cc0_stg1_0 : Memref sig .tc .vmem S512x256 .bf16).view.readAt (Elt F) (Rect.unit (s := S512x256) ![0, 0] S512x256.size inb_S512x256_S512x256_0_0).toLoadRect f = f :=
  Memref.readAt_unit_zero (Elt F) cc0_stg1_0 z2 _ f
/-- the keys, -/
theorem read_k (f : (cc0_stg2_0 : Ref sig .tc).ty.Contents (Elt F)) :
    (Memref.whole cc0_stg2_0 : Memref sig .tc .vmem S2x256x32x64 .bf16).view.readAt (Elt F) (Rect.unit (s := S2x256x32x64) ![0, 0, 0, 0] S2x256x32x64.size inb_S2x256x32x64_S2x256x32x64_0_0_0_0).toLoadRect f = f :=
  Memref.readAt_unit_zero (Elt F) cc0_stg2_0 z4 _ f
/-- the values, -/
theorem read_v (f : (cc0_stg3_0 : Ref sig .tc).ty.Contents (Elt F)) :
    (Memref.whole cc0_stg3_0 : Memref sig .tc .vmem S2x256x32x64 .bf16).view.readAt (Elt F) (Rect.unit (s := S2x256x32x64) ![0, 0, 0, 0] S2x256x32x64.size inb_S2x256x32x64_S2x256x32x64_0_0_0_0).toLoadRect f = f :=
  Memref.readAt_unit_zero (Elt F) cc0_stg3_0 z4 _ f
/-- the rows of `Wo`. -/
theorem read_wo (f : (cc0_stg4_0 : Ref sig .tc).ty.Contents (Elt F)) :
    (Memref.whole cc0_stg4_0 : Memref sig .tc .vmem S256x512 .bf16).view.readAt (Elt F) (Rect.unit (s := S256x512) ![0, 0] S256x512.size inb_S256x512_S256x512_0_0).toLoadRect f = f :=
  Memref.readAt_unit_zero (Elt F) cc0_stg4_0 z2 _ f
/-- Storing over a whole buffer leaves what was stored: in the rearranged keys, -/
theorem write_k (f w : (cc0_scratch1 : Ref sig .tc).ty.Contents (Elt F)) :
    (keyM.access (Rect.unit (s := S8x32x64x64) ![0, 0, 0, 0] S8x32x64x64.size inb_S8x32x64x64_S8x32x64x64_0_0_0_0) : View sig .tc _ _ _).write (Elt F) f w Finset.univ = w :=
  Memref.write_access_unit_zero_univ (Elt F) cc0_scratch1 z4 _ f w
/-- the rearranged values, -/
theorem write_v (f w : (cc0_scratch2 : Ref sig .tc).ty.Contents (Elt F)) :
    (valM.access (Rect.unit (s := S8x32x64x64) ![0, 0, 0, 0] S8x32x64x64.size inb_S8x32x64x64_S8x32x64x64_0_0_0_0) : View sig .tc _ _ _).write (Elt F) f w Finset.univ = w :=
  Memref.write_access_unit_zero_univ (Elt F) cc0_scratch2 z4 _ f w
/-- and the result. -/
theorem write_out (f w : (cc0_stg5_0 : Ref sig .tc).ty.Contents (Elt F)) :
    ((Memref.whole cc0_stg5_0 : Memref sig .tc .vmem S2x256x512 .f32).access (Rect.unit (s := S2x256x512) ![0, 0, 0] S2x256x512.size inb_S2x256x512_S2x256x512_0_0_0) : View sig .tc _ _ _).write (Elt F) f w Finset.univ = w :=
  Memref.write_access_unit_zero_univ (Elt F) cc0_stg5_0 z3 _ f w

/-- Both packing rectangles lie in the own slot. -/
theorem top_sub (c : Dev nD) : (commM.access (topR c)).set ⊆ slotSet c := fun i hi => mem_slotSet.mpr (mem_topR.mp hi).1
/-- The lower half of a slot lies in the slot. -/
theorem low_sub (c : Dev nD) : (commM.access (lowR c)).set ⊆ slotSet c := fun i hi => mem_slotSet.mpr (mem_lowR.mp hi).1

/-- After the two stores a device's own slot holds its packed weights. -/
theorem packed_slot (c : Dev nD) (f : (cc0_scratch0 : Ref sig .tc).ty.Contents (Elt F)) :
    ((commM.access (lowR c)).loc (c : Thread nD τ) ↦[slotSet c]{fullShare} (commM.access (lowR c) : View sig .tc _ _ _).write (Elt F)
      ((commM.access (topR c) : View sig .tc _ _ _).write (Elt F) f (k0_pay1 (wqS m c)) Finset.univ) (k0_pay2 (woS m c)) Finset.univ)
      ⊢ (slotPts c c fullShare (packed m) : sProp 𝕄) := by
  unfold slotPts
  exact Entails.of_eq (pointsTo_congr (ℓ := (c : Thread nD τ).loc cc0_scratch0) (packed_own m c f))

/-- A communication buffer is its eight slots, each with some contents. -/
theorem slots_any (c : Dev nD) (f : Buf (Elt F) ((c : Thread nD τ).loc cc0_scratch0)) :
    (bigSep (Finset.univ.erase c) fun j : Dev nD => (slotPts c j fullShare f : sProp 𝕄))
      ⊢ bigSep (Finset.univ.erase c) fun j : Dev nD => iprop(∃ f, slotPts c j fullShare f) :=
  BI.bigSep_mono fun j _ => show (slotPts c j fullShare f : sProp 𝕄) ⊢ iprop(∃ f, slotPts c j fullShare f) from by iintro H; iexists f; iexact H

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 17 → ℕ)

def bodyPre (c : Dev nD) : sProp 𝕄 :=
  iprop((ghost m K c ∗ cred (tallyAt (barCell c) () 7)
      ∗ (bigSep (Finset.univ.erase c) fun j : Dev nD => cred (tallyAt (recvCell c j) () N)) ∗ levAts L lv ∗ scratches c)
    ∗ (∃ W, owes (c : Thread nD τ) (O₀ c) W)
    ∗ (((c : Thread nD τ).loc cc0_stg0_0) ↦{fullShare} xS m c)
    ∗ (((c : Thread nD τ).loc cc0_stg1_0) ↦{fullShare} wqS m c)
    ∗ (((c : Thread nD τ).loc cc0_stg2_0) ↦{fullShare} kS m c)
    ∗ (((c : Thread nD τ).loc cc0_stg3_0) ↦{fullShare} vS m c)
    ∗ (((c : Thread nD τ).loc cc0_stg4_0) ↦{fullShare} woS m c)
    ∗ ∃ f : Buf (Elt F) ((c : Thread nD τ).loc cc0_stg5_0), ((c : Thread nD τ).loc cc0_stg5_0) ↦{fullShare} f)

def bodyPost (c : Dev nD) : sProp 𝕄 :=
  iprop(Φ₁ c ∗ (∃ W, owes (c : Thread nD τ) 0 W)
    ∗ (((c : Thread nD τ).loc cc0_stg0_0) ↦{fullShare} xS m c)
    ∗ (((c : Thread nD τ).loc cc0_stg1_0) ↦{fullShare} wqS m c)
    ∗ (((c : Thread nD τ).loc cc0_stg2_0) ↦{fullShare} kS m c)
    ∗ (((c : Thread nD τ).loc cc0_stg3_0) ↦{fullShare} vS m c)
    ∗ (((c : Thread nD τ).loc cc0_stg4_0) ↦{fullShare} woS m c)
    ∗ (((c : Thread nD τ).loc cc0_stg5_0) ↦{fullShare} outAt m c))

set_option maxHeartbeats 6400000 in
/-- The body, symbolically executed from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.pure_eq_ret, wp_deviceId]
  unfold bodyPre ghost scratches
  iintro ⟨⟨⟨⟨#HR, HaB, HaS, HaV, HtB, HtV, HtS⟩, HcB, HcV, #Hlev, ⟨%f0, Hcomm⟩, ⟨%f1, Hkey⟩, ⟨%f2, Hval⟩⟩,
    HO, Hx, Hwq, Hk, Hv, Hwo, ⟨%f5, Hout⟩⟩, Hend⟩
  -- the own slot apart from the seven the peers will fill
  ihave Hcomm := (Entails.of_eq ((comm_slots c f0).trans (bigSep_take (Finset.mem_univ c) fun j : Dev nD => slotPts c j fullShare f0))) $$ Hcomm
  icases Hcomm with ⟨Hown, Hslots⟩
  -- the packing
  iapply (wp_load 𝒱₀ (c : Thread nD τ) none Set.univ (m := (Memref.whole cc0_stg1_0 : Memref sig .tc .vmem S512x256 .bf16)) (Finset.subset_univ _)) $$ Hwq; iintro Hwq
  rw [read_wq]
  ihave Hown := (Entails.of_eq (show (slotPts c c fullShare f0 : sProp 𝕄) = ((commM.access (topR c)).loc (c : Thread nD τ) ↦[slotSet c]{fullShare} f0) from rfl)) $$ Hown
  iapply (wp_load_rect 𝒱₀ (c : Thread nD τ) none Set.univ (m := commM) (r := topR c) (top_sub c)) $$ Hown; iintro Hown
  iapply (wp_store 𝒱₀ (c : Thread nD τ) none Set.univ (m := commM) (r := topR c) (Mk := Finset.univ) (by rw [View.setOn_univ]; exact top_sub c)) $$ Hown; iintro Hown
  iapply (wp_load 𝒱₀ (c : Thread nD τ) none Set.univ (m := (Memref.whole cc0_stg4_0 : Memref sig .tc .vmem S256x512 .bf16)) (Finset.subset_univ _)) $$ Hwo; iintro Hwo
  rw [read_wo]
  iapply (wp_load_rect 𝒱₀ (c : Thread nD τ) none Set.univ (m := commM) (r := lowR c) (low_sub c)) $$ Hown; iintro Hown
  iapply (wp_store 𝒱₀ (c : Thread nD τ) none Set.univ (m := commM) (r := lowR c) (Mk := Finset.univ) (by rw [View.setOn_univ]; exact low_sub c)) $$ Hown; iintro Hown
  ihave Hown := (packed_slot m c f0) $$ Hown
  -- the keys and the values laid out
  iapply (wp_load 𝒱₀ (c : Thread nD τ) none Set.univ (m := (Memref.whole cc0_stg2_0 : Memref sig .tc .vmem S2x256x32x64 .bf16)) (Finset.subset_univ _)) $$ Hk; iintro Hk
  rw [read_k]
  iapply (wp_load 𝒱₀ (c : Thread nD τ) none Set.univ (m := keyM) (Finset.subset_univ _)) $$ Hkey; iintro Hkey
  iapply (wp_store 𝒱₀ (c : Thread nD τ) none Set.univ (m := keyM) (r := Rect.unit (s := S8x32x64x64) ![0, 0, 0, 0] S8x32x64x64.size inb_S8x32x64x64_S8x32x64x64_0_0_0_0) (Mk := Finset.univ) (Finset.subset_univ _)) $$ Hkey; iintro Hkey
  rw [write_k]
  ihave Hkey := (show ((keyM.access (Rect.unit (s := S8x32x64x64) ![0, 0, 0, 0] S8x32x64x64.size inb_S8x32x64x64_S8x32x64x64_0_0_0_0)).loc (c : Thread nD τ) ↦{fullShare} k0_pay3 (kS m c) : sProp 𝕄) ⊢ (((c : Thread nD τ).loc cc0_scratch1) ↦{fullShare} kScr m c) from .rfl) $$ Hkey
  iapply (wp_load 𝒱₀ (c : Thread nD τ) none Set.univ (m := (Memref.whole cc0_stg3_0 : Memref sig .tc .vmem S2x256x32x64 .bf16)) (Finset.subset_univ _)) $$ Hv; iintro Hv
  rw [read_v]
  iapply (wp_load 𝒱₀ (c : Thread nD τ) none Set.univ (m := valM) (Finset.subset_univ _)) $$ Hval; iintro Hval
  iapply (wp_store 𝒱₀ (c : Thread nD τ) none Set.univ (m := valM) (r := Rect.unit (s := S8x32x64x64) ![0, 0, 0, 0] S8x32x64x64.size inb_S8x32x64x64_S8x32x64x64_0_0_0_0) (Mk := Finset.univ) (Finset.subset_univ _)) $$ Hval; iintro Hval
  rw [write_v]
  ihave Hval := (show ((valM.access (Rect.unit (s := S8x32x64x64) ![0, 0, 0, 0] S8x32x64x64.size inb_S8x32x64x64_S8x32x64x64_0_0_0_0)).loc (c : Thread nD τ) ↦{fullShare} k0_pay5 (k0_pay4 (vS m c)) : sProp 𝕄) ⊢ (((c : Thread nD τ).loc cc0_scratch2) ↦{fullShare} vScr m c) from .rfl) $$ Hval
  -- the signals
  ihave HS := (sig_start (F := F) c) $$ [HO HtB Hslots]
  · isplitl [HO]; · iexact HO
    isplitl [HtB]; · iexact HtB
    iapply (slots_any c f0)
    iexact Hslots
  iapply (step_signal m K c (0 : Fin 7) (dev1_eq c) (by decide)) $$ [HS]
  · isplitr; · iexact HR
    iexact HS
  iintro HS
  iapply (step_signal m K c (1 : Fin 7) (dev2_eq c) (by decide)) $$ [HS]
  · isplitr; · iexact HR
    iexact HS
  iintro HS
  iapply (step_signal m K c (2 : Fin 7) (dev3_eq c) (by decide)) $$ [HS]
  · isplitr; · iexact HR
    iexact HS
  iintro HS
  iapply (step_signal m K c (3 : Fin 7) (dev4_eq c) (by decide)) $$ [HS]
  · isplitr; · iexact HR
    iexact HS
  iintro HS
  iapply (step_signal m K c (4 : Fin 7) (dev5_eq c) (by decide)) $$ [HS]
  · isplitr; · iexact HR
    iexact HS
  iintro HS
  iapply (step_signal m K c (5 : Fin 7) (dev6_eq c) (by decide)) $$ [HS]
  · isplitr; · iexact HR
    iexact HS
  iintro HS
  iapply (step_signal m K c (6 : Fin 7) (dev7_eq c) (by decide)) $$ [HS]
  · isplitr; · iexact HR
    iexact HS
  iintro HS
  iapply (step_barrier m K c (by decide)) $$ [HaB HcB HS]
  · isplitr; · iexact HR
    isplitr; · iexact Hlev
    isplitl [HaB]; · iexact HaB
    isplitl [HcB]; · iexact HcB
    iexact HS
  iintro ⟨HO, HaB, Hpeer⟩
  -- the copies
  ihave Hown := (lend m c) $$ Hown
  icases Hown with ⟨Hown, Hself, Hlent⟩
  ihave HS := (send_start m c) $$ [HO HtV HtS Hpeer Hlent]
  · isplitl [HO]; · iexact HO
    isplitl [HtV]; · iexact HtV
    isplitl [HtS]; · iexact HtS
    isplitl [Hpeer] <;> iassumption
  iapply (step_send m K c (0 : Fin 7) (dev8_eq c) (slot_at c (k0_off5_eq c) _ _) (slot_at c (k0_off5_eq c) _ _)
    (send_at _ (off3_eq c (0 : Fin 7)) _) (recv_at c (k0_off4_eq c) _)) $$ [HS]
  · isplitr; · iexact HR
    iexact HS
  iintro HS
  iapply (step_send m K c (1 : Fin 7) (dev9_eq c) (slot_at c (k0_off5_eq c) _ _) (slot_at c (k0_off5_eq c) _ _)
    (send_at _ (off3_eq c (1 : Fin 7)) _) (recv_at c (k0_off4_eq c) _)) $$ [HS]
  · isplitr; · iexact HR
    iexact HS
  iintro HS
  iapply (step_send m K c (2 : Fin 7) (dev10_eq c) (slot_at c (k0_off5_eq c) _ _) (slot_at c (k0_off5_eq c) _ _)
    (send_at _ (off3_eq c (2 : Fin 7)) _) (recv_at c (k0_off4_eq c) _)) $$ [HS]
  · isplitr; · iexact HR
    iexact HS
  iintro HS
  iapply (step_send m K c (3 : Fin 7) (dev11_eq c) (slot_at c (k0_off5_eq c) _ _) (slot_at c (k0_off5_eq c) _ _)
    (send_at _ (off3_eq c (3 : Fin 7)) _) (recv_at c (k0_off4_eq c) _)) $$ [HS]
  · isplitr; · iexact HR
    iexact HS
  iintro HS
  iapply (step_send m K c (4 : Fin 7) (dev12_eq c) (slot_at c (k0_off5_eq c) _ _) (slot_at c (k0_off5_eq c) _ _)
    (send_at _ (off3_eq c (4 : Fin 7)) _) (recv_at c (k0_off4_eq c) _)) $$ [HS]
  · isplitr; · iexact HR
    iexact HS
  iintro HS
  iapply (step_send m K c (5 : Fin 7) (dev13_eq c) (slot_at c (k0_off5_eq c) _ _) (slot_at c (k0_off5_eq c) _ _)
    (send_at _ (off3_eq c (5 : Fin 7)) _) (recv_at c (k0_off4_eq c) _)) $$ [HS]
  · isplitr; · iexact HR
    iexact HS
  iintro HS
  iapply (step_send m K c (6 : Fin 7) (dev14_eq c) (slot_at c (k0_off5_eq c) _ _) (slot_at c (k0_off5_eq c) _ _)
    (send_at _ (off3_eq c (6 : Fin 7)) _) (recv_at c (k0_off4_eq c) _)) $$ [HS]
  · isplitr; · iexact HR
    iexact HS
  iintro HS
  ihave HS := (send_end m c (n := (6 : Fin 7).val + 1) rfl) $$ HS
  icases HS with ⟨HO, HcS⟩
  -- the own heads
  iapply (wp_load 𝒱₀ (c : Thread nD τ) none Set.univ (m := (Memref.whole cc0_stg0_0 : Memref sig .tc .vmem S2x256x512 .bf16)) (Finset.subset_univ _)) $$ Hx; iintro Hx
  rw [read_x]
  iapply (step_load_slot m c c (Transfers.shareDrop fullShare 8) ((off6_eq c (0 : Fin 8)).trans (by rw [show behind c (0 : Fin 8).val = c from behind_zero c]))) $$ Hown; iintro Hown
  iapply (step_load_k m c c ((off7_eq c (0 : Fin 8)).trans (by rw [show behind c (0 : Fin 8).val = c from behind_zero c]))) $$ Hkey; iintro Hkey
  iapply (step_load_v m c c ((off7_eq c (0 : Fin 8)).trans (by rw [show behind c (0 : Fin 8).val = c from behind_zero c]))) $$ Hval; iintro Hval
  -- the arrivals, each followed by its heads
  ihave HaV := (Entails.of_eq (bigSep_take (Finset.mem_univ c) fun j : Dev nD => (atPos ER (recvCell c j) 0 ∅ 0 : sProp 𝕄))) $$ HaV
  icases HaV with ⟨HaVc, HaV⟩
  ihave HS := (recv_start m c) $$ [HO HaV HcV]
  · isplitl [HO]; · iexact HO
    isplitl [HaV] <;> iassumption
  iapply (step_recv m K c (0 : Fin 7) (slot_at _ (off9_eq c (0 : Fin 7)) _ _) (recv_at _ (off8_eq c (0 : Fin 7)) _)) $$ [HS]
  · isplitr; · iexact HR
    iexact HS
  iintro HS
  iapply (step_load_came m c ((0 : Fin 7).val + 1) (behind c 1) (came_mem c (0 : Fin 7)) (off6_eq c (1 : Fin 8))) $$ HS; iintro HS
  iapply (step_load_k m c (behind c 1) (off7_eq c (1 : Fin 8))) $$ Hkey; iintro Hkey
  iapply (step_load_v m c (behind c 1) (off7_eq c (1 : Fin 8))) $$ Hval; iintro Hval
  iapply (step_recv m K c (1 : Fin 7) (slot_at _ (off9_eq c (1 : Fin 7)) _ _) (recv_at _ (off8_eq c (1 : Fin 7)) _)) $$ [HS]
  · isplitr; · iexact HR
    iexact HS
  iintro HS
  iapply (step_load_came m c ((1 : Fin 7).val + 1) (behind c 2) (came_mem c (1 : Fin 7)) (off6_eq c (2 : Fin 8))) $$ HS; iintro HS
  iapply (step_load_k m c (behind c 2) (off7_eq c (2 : Fin 8))) $$ Hkey; iintro Hkey
  iapply (step_load_v m c (behind c 2) (off7_eq c (2 : Fin 8))) $$ Hval; iintro Hval
  iapply (step_recv m K c (2 : Fin 7) (slot_at _ (off9_eq c (2 : Fin 7)) _ _) (recv_at _ (off8_eq c (2 : Fin 7)) _)) $$ [HS]
  · isplitr; · iexact HR
    iexact HS
  iintro HS
  iapply (step_load_came m c ((2 : Fin 7).val + 1) (behind c 3) (came_mem c (2 : Fin 7)) (off6_eq c (3 : Fin 8))) $$ HS; iintro HS
  iapply (step_load_k m c (behind c 3) (off7_eq c (3 : Fin 8))) $$ Hkey; iintro Hkey
  iapply (step_load_v m c (behind c 3) (off7_eq c (3 : Fin 8))) $$ Hval; iintro Hval
  iapply (step_recv m K c (3 : Fin 7) (slot_at _ (off9_eq c (3 : Fin 7)) _ _) (recv_at _ (off8_eq c (3 : Fin 7)) _)) $$ [HS]
  · isplitr; · iexact HR
    iexact HS
  iintro HS
  iapply (step_load_came m c ((3 : Fin 7).val + 1) (behind c 4) (came_mem c (3 : Fin 7)) (off6_eq c (4 : Fin 8))) $$ HS; iintro HS
  iapply (step_load_k m c (behind c 4) (off7_eq c (4 : Fin 8))) $$ Hkey; iintro Hkey
  iapply (step_load_v m c (behind c 4) (off7_eq c (4 : Fin 8))) $$ Hval; iintro Hval
  iapply (step_recv m K c (4 : Fin 7) (slot_at _ (off9_eq c (4 : Fin 7)) _ _) (recv_at _ (off8_eq c (4 : Fin 7)) _)) $$ [HS]
  · isplitr; · iexact HR
    iexact HS
  iintro HS
  iapply (step_load_came m c ((4 : Fin 7).val + 1) (behind c 5) (came_mem c (4 : Fin 7)) (off6_eq c (5 : Fin 8))) $$ HS; iintro HS
  iapply (step_load_k m c (behind c 5) (off7_eq c (5 : Fin 8))) $$ Hkey; iintro Hkey
  iapply (step_load_v m c (behind c 5) (off7_eq c (5 : Fin 8))) $$ Hval; iintro Hval
  iapply (step_recv m K c (5 : Fin 7) (slot_at _ (off9_eq c (5 : Fin 7)) _ _) (recv_at _ (off8_eq c (5 : Fin 7)) _)) $$ [HS]
  · isplitr; · iexact HR
    iexact HS
  iintro HS
  iapply (step_load_came m c ((5 : Fin 7).val + 1) (behind c 6) (came_mem c (5 : Fin 7)) (off6_eq c (6 : Fin 8))) $$ HS; iintro HS
  iapply (step_load_k m c (behind c 6) (off7_eq c (6 : Fin 8))) $$ Hkey; iintro Hkey
  iapply (step_load_v m c (behind c 6) (off7_eq c (6 : Fin 8))) $$ Hval; iintro Hval
  iapply (step_recv m K c (6 : Fin 7) (slot_at _ (off9_eq c (6 : Fin 7)) _ _) (recv_at _ (off8_eq c (6 : Fin 7)) _)) $$ [HS]
  · isplitr; · iexact HR
    iexact HS
  iintro HS
  iapply (step_load_came m c ((6 : Fin 7).val + 1) (behind c 7) (came_mem c (6 : Fin 7)) (off6_eq c (7 : Fin 8))) $$ HS; iintro HS
  iapply (step_load_k m c (behind c 7) (off7_eq c (7 : Fin 8))) $$ Hkey; iintro Hkey
  iapply (step_load_v m c (behind c 7) (off7_eq c (7 : Fin 8))) $$ Hval; iintro Hval
  ihave HS := (recv_end m c (n := (6 : Fin 7).val + 1) rfl) $$ HS
  icases HS with ⟨HO, HaV, Hgot⟩
  -- the result
  iapply (wp_load 𝒱₀ (c : Thread nD τ) none Set.univ (m := (Memref.whole cc0_stg5_0 : Memref sig .tc .vmem S2x256x512 .f32)) (Finset.subset_univ _)) $$ Hout; iintro Hout
  iapply (wp_store 𝒱₀ (c : Thread nD τ) none Set.univ (m := (Memref.whole cc0_stg5_0 : Memref sig .tc .vmem S2x256x512 .f32)) (r := Rect.unit (s := S2x256x512) ![0, 0, 0] S2x256x512.size inb_S2x256x512_S2x256x512_0_0_0) (Mk := Finset.univ) (Finset.subset_univ _)) $$ Hout; iintro Hout
  rw [write_out]
  ihave Hout := (Entails.of_eq (congrArg (fun f => (((c : Thread nD τ).loc cc0_stg5_0) ↦{fullShare} f : sProp 𝕄)) (out_fold m c))) $$ Hout
  -- the ends of the own copies
  ihave HaS := (Entails.of_eq (bigSep_take (Finset.mem_univ c) fun j : Dev nD => (atPos ER (sendCell c j) 0 ∅ 0 : sProp 𝕄))) $$ HaS
  icases HaS with ⟨HaSc, HaS⟩
  ihave HS := (done_start m c) $$ [HO HaS HcS]
  · isplitl [HO]; · iexact HO
    isplitl [HaS] <;> iassumption
  iapply (step_done m K c (0 : Fin 7) (slot_at c (k0_off5_eq c) _ _) (send_at _ (off3_eq c (0 : Fin 7)) _)) $$ [HS]
  · isplitr; · iexact HR
    iexact HS
  iintro HS
  iapply (step_done m K c (1 : Fin 7) (slot_at c (k0_off5_eq c) _ _) (send_at _ (off3_eq c (1 : Fin 7)) _)) $$ [HS]
  · isplitr; · iexact HR
    iexact HS
  iintro HS
  iapply (step_done m K c (2 : Fin 7) (slot_at c (k0_off5_eq c) _ _) (send_at _ (off3_eq c (2 : Fin 7)) _)) $$ [HS]
  · isplitr; · iexact HR
    iexact HS
  iintro HS
  iapply (step_done m K c (3 : Fin 7) (slot_at c (k0_off5_eq c) _ _) (send_at _ (off3_eq c (3 : Fin 7)) _)) $$ [HS]
  · isplitr; · iexact HR
    iexact HS
  iintro HS
  iapply (step_done m K c (4 : Fin 7) (slot_at c (k0_off5_eq c) _ _) (send_at _ (off3_eq c (4 : Fin 7)) _)) $$ [HS]
  · isplitr; · iexact HR
    iexact HS
  iintro HS
  iapply (step_done m K c (5 : Fin 7) (slot_at c (k0_off5_eq c) _ _) (send_at _ (off3_eq c (5 : Fin 7)) _)) $$ [HS]
  · isplitr; · iexact HR
    iexact HS
  iintro HS
  iapply (step_done m K c (6 : Fin 7) (slot_at c (k0_off5_eq c) _ _) (send_at _ (off3_eq c (6 : Fin 7)) _)) $$ [HS]
  · isplitr; · iexact HR
    iexact HS
  iintro HS
  ihave HS := (done_end m c (n := (6 : Fin 7).val + 1) rfl) $$ HS
  icases HS with ⟨HO, HaS, Hlent⟩
  -- the cells close, the buffer is whole again
  imod (close_bar m K c) $$ [HaB] with HzB
  · isplitr; · iexact HR
    iexact HaB
  imod (close_sends m K c) $$ [HaSc HaS] with HzS
  · isplitr; · iexact HR
    isplitl [HaSc] <;> iassumption
  imod (close_recvs m K c) $$ [HaVc HaV] with HzV
  · isplitr; · iexact HR
    isplitl [HaVc] <;> iassumption
  ihave Hown := (unlend m c) $$ [Hown Hself Hlent]
  · isplitl [Hown]; · iexact Hown
    isplitl [Hself] <;> iassumption
  ihave Hcomm := (gather_slots m c) $$ [Hown Hgot]
  · isplitl [Hown] <;> iassumption
  rw [wp_ret]; imodintro
  iapply Hend
  unfold bodyPost Φ₁ scratches
  isplitl [Hcomm Hkey Hval HzS HzV HzB]
  · isplitl [Hcomm Hkey Hval]
    · isplitl [Hcomm]; · iexists _; iexact Hcomm
      isplitl [Hkey]; · iexists _; iexact Hkey
      iexists _; iexact Hval
    isplitl [HzS]; · iexact HzS
    isplitl [HzV] <;> iassumption
  isplitl [HO]; · iexact HO
  isplitl [Hx]; · iexact Hx
  isplitl [Hwq]; · iexact Hwq
  isplitl [Hk]; · iexact Hk
  isplitl [Hv]; · iexact Hv
  isplitl [Hwo]; · iexact Hwo
  iexact Hout

end Body

end Cert.Exchange

end
-- ==== Proof.Launch.lean ====
/-
The launch: the ghost state dealt to the eight devices, what they owe one another, and the run of the whole program.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

def bodyPre' (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost' (c : Dev nD) : sProp 𝕄 :=
  iprop(Φ₁ c ∗ (dats m ρ 0 c).owesAt () t₀.succ ∗ stg c cc0_stg0_0 (xS m c) ∗ stg c cc0_stg1_0 (wqS m c) ∗ stg c cc0_stg2_0 (kS m c)
    ∗ stg c cc0_stg3_0 (vS m c) ∗ stg c cc0_stg4_0 (woS m c) ∗ stg c cc0_stg5_0 (outAt m c))

/-- A buffer held whole is a staged buffer. -/
theorem stg_intro (c : Dev nD) (b : Ref sig .tc) (X : b.ty.Contents (Elt F)) : (((c : Thread nD τ).loc b) ↦{fullShare} X : sProp 𝕄) ⊢ stg c b X := by
  iintro H
  iexists X
  isplitr; · (ipureintro; rfl)
  iexact H

/-- What the body leaves is what the launch asks for. -/
theorem post_intro (c : Dev nD) : bodyPost m c ⊢ bodyPost' m ρ c := by
  unfold bodyPost bodyPost' Dat.owesAt Pipeline.owesWithin
  rw [show (dats m ρ 0 c).owed t₀.succ = 0 from rfl]
  iintro ⟨HΦ, ⟨%W, HO⟩, Hx, Hwq, Hk, Hv, Hwo, Hout⟩
  isplitl [HΦ]; · iexact HΦ
  isplitl [HO]
  · iexists W
    isplitr; · ipureintro; exact fun _ _ => Or.inl trivial
    iexact HO
  isplitl [Hx]; · iapply (stg_intro c cc0_stg0_0 (xS m c)); iexact Hx
  isplitl [Hwq]; · iapply (stg_intro c cc0_stg1_0 (wqS m c)); iexact Hwq
  isplitl [Hk]; · iapply (stg_intro c cc0_stg2_0 (kS m c)); iexact Hk
  isplitl [Hv]; · iapply (stg_intro c cc0_stg3_0 (vS m c)); iexact Hv
  isplitl [Hwo]; · iapply (stg_intro c cc0_stg4_0 (woS m c)); iexact Hwo
  iapply (stg_intro c cc0_stg5_0 (outAt m c)); iexact Hout

/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost' m ρ c)
  unfold bodyPre' Φ₀ start Dat.owesAt Pipeline.owesWithin
  rw [show (dats m ρ 0 c).owed t₀.castSucc = O₀ c from rfl]
  iintro ⟨⟨⟨⟨%K, Hg⟩, H1, H2, H3⟩, Hscr⟩, ⟨%W, -, HO⟩, ⟨%d0, %g0, %h0, Hx⟩, ⟨%d1, %g1, %h1, Hwq⟩, ⟨%d2, %g2, %h2, Hk⟩, ⟨%d3, %g3, %h3, Hv⟩,
    ⟨%d4, %g4, %h4, Hwo⟩, ⟨%d5, %g5, %h5, Hout⟩⟩
  have e0 : g0 = xS m c := by rw [h0]; unfold Dat.before; rw [if_pos (fetch0_0 t₀)]; rfl
  have e1 : g1 = wqS m c := by rw [h1]; unfold Dat.before; rw [if_pos (fetch0_1 t₀)]; rfl
  have e2 : g2 = kS m c := by rw [h2]; unfold Dat.before; rw [if_pos (fetch0_2 t₀)]; rfl
  have e3 : g3 = vS m c := by rw [h3]; unfold Dat.before; rw [if_pos (fetch0_3 t₀)]; rfl
  have e4 : g4 = woS m c := by rw [h4]; unfold Dat.before; rw [if_pos (fetch0_4 t₀)]; rfl
  subst e0 e1 e2 e3 e4
  iapply (sound_body m K c fun _ => bodyPost' m ρ c)
  unfold bodyPre
  isplitl
  · isplitl [Hg H1 H2 H3 Hscr]
    · isplitl [Hg]; · iexact Hg
      isplitl [H1]; · iexact H1
      isplitl [H2]; · iexact H2
      isplitl [H3]; · iexact H3
      iexact Hscr
    isplitl [HO]; · iexists W; iexact HO
    isplitl [Hx]; · iexact Hx
    isplitl [Hwq]; · iexact Hwq
    isplitl [Hk]; · iexact Hk
    isplitl [Hv]; · iexact Hv
    isplitl [Hwo]; · iexact Hwo
    iexists g5; iexact Hout
  · iintro H; iapply (post_intro m ρ c); iexact H

/-! ## The cells and their tokens -/

/-- A kernel's own sixteen semaphores: the send and the receive semaphores. -/
abbrev osem : Fin 16 → SemLoc sig := fun i => csem i.succ

/-- The counters that are the kernel's own. -/
theorem ownSemFacts : Pipeline.OwnSemFacts cfg0.spec osem := by decide +kernel

/-- Every window is held in full. -/
theorem share_eq (c : Dev nD) (w : Fin cfg0.W) : (dats m ρ 0 c).share w = fullShare := by unfold Dat.share; split <;> rfl

/-- The counters of a device are distinct, -/
theorem csem_injective : Function.Injective csem := by decide +kernel
/-- and so are those of all devices. -/
theorem kcell_injective : Function.Injective (kcell : Dev nD × Fin 17 → GSem nD τ sig) := by
  rintro ⟨c, k⟩ ⟨c', k'⟩ h
  exact Prod.ext (congrArg (fun g : GSem nD τ sig => g.1.1) h) (csem_injective (congrArg Prod.snd h))
def exCells : Finset (GSem nD τ sig) := Finset.univ.map ⟨kcell, kcell_injective⟩

/-- Which cell of device `c` the payment by or about device `j` is made to: its barrier, its send cell `j`, its receive cell `j`. -/
def tokIx (j : Dev nD) (k : Fin 3) : Fin 17 := if k = 0 then 0 else if k = 1 then sendIx j else recvIx j
/-- A device's own cells' duty tokens as minted. -/
abbrev tokOf (x : Dev nD × Dev nD × Fin 3) : GSem nD τ sig × ℕ × Dev nD := (kcell (x.1, tokIx x.2.1 x.2.2), 0, x.2.1)
/-- The tokens of a device are distinct, -/
theorem tokIx_injective : ∀ j : Dev nD, Function.Injective (tokIx j) := by decide +kernel
/-- and so are those of all devices. -/
theorem tokOf_injective : Function.Injective (tokOf : Dev nD × Dev nD × Fin 3 → GSem nD τ sig × ℕ × Dev nD) := by
  rintro ⟨c, j, k⟩ ⟨c', j', k'⟩ h
  have h1 : (c, tokIx j k) = (c', tokIx j' k') := kcell_injective (congrArg Prod.fst h)
  have h2 : j = j' := congrArg (fun x : GSem nD τ sig × ℕ × Dev nD => x.2.2) h
  subst h2
  obtain rfl : c = c' := congrArg Prod.fst h1
  obtain rfl : k = k' := tokIx_injective j (congrArg Prod.snd h1)
  rfl
def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- A family over a device's cells: its barrier's, its send cells', its receive cells'. -/
theorem cells_split (c : Dev nD) (Φ : GSem nD τ sig → sProp 𝕄) :
    (bigSep Finset.univ fun k : Fin 17 => Φ (kcell (c, k)))
      = iprop(Φ (barCell c) ∗ (bigSep Finset.univ fun j : Dev nD => Φ (sendCell c j)) ∗ bigSep Finset.univ fun j : Dev nD => Φ (recvCell c j)) := by
  have hs : Function.Injective sendIx := by decide +kernel
  have hr : Function.Injective recvIx := by decide +kernel
  have hu : (Finset.univ : Finset (Fin 17)).erase 0 = Finset.univ.map ⟨sendIx, hs⟩ ∪ Finset.univ.map ⟨recvIx, hr⟩ := by revert hs hr; decide +kernel
  have hd : Disjoint (Finset.univ.map ⟨sendIx, hs⟩) (Finset.univ.map ⟨recvIx, hr⟩) := by revert hs hr; decide +kernel
  rw [bigSep_take (Finset.mem_univ (0 : Fin 17)), hu, show ∀ A B : Finset (Fin 17), Disjoint A B → ∀ Ψ : Fin 17 → sProp 𝕄,
    bigSep (A ∪ B) Ψ = iprop(bigSep A Ψ ∗ bigSep B Ψ) from fun A B h Ψ => BI.bigSep_union h, BI.bigSep_map, BI.bigSep_map]
  · simp only [Function.Embedding.coeFn_mk, kcell_send, kcell_recv]
    rfl
  · exact hd
def ownSend (j : Dev nD) : Fin 16 := ⟨j.val, Nat.lt_of_lt_of_le j.isLt (by decide)⟩
def ownRecv (j : Dev nD) : Fin 16 := ⟨8 + j.val, Nat.add_lt_add_left (show j.val < 8 from j.isLt) 8⟩
/-- The same over its own sixteen. -/
theorem own_split (c : Dev nD) (Φ : GSem nD τ sig → sProp 𝕄) :
    (bigSep Finset.univ fun k : Fin 16 => Φ ((c : Thread nD τ), osem k))
      = iprop((bigSep Finset.univ fun j : Dev nD => Φ (sendCell c j)) ∗ bigSep Finset.univ fun j : Dev nD => Φ (recvCell c j)) := by
  have hs : Function.Injective ownSend := by decide +kernel
  have hr : Function.Injective ownRecv := by decide +kernel
  have hu : (Finset.univ : Finset (Fin 16)) = Finset.univ.map ⟨ownSend, hs⟩ ∪ Finset.univ.map ⟨ownRecv, hr⟩ := by revert hs hr; decide +kernel
  have hd : Disjoint (Finset.univ.map ⟨ownSend, hs⟩) (Finset.univ.map ⟨ownRecv, hr⟩) := by revert hs hr; decide +kernel
  have ea : ∀ j, osem (ownSend j) = .dma (sendS j) := by decide +kernel
  have eb : ∀ j, osem (ownRecv j) = .dma (recvS j) := by decide +kernel
  rw [hu, show ∀ A B : Finset (Fin 16), Disjoint A B → ∀ Ψ : Fin 16 → sProp 𝕄,
    bigSep (A ∪ B) Ψ = iprop(bigSep A Ψ ∗ bigSep B Ψ) from fun A B h Ψ => BI.bigSep_union h, BI.bigSep_map, BI.bigSep_map]
  · simp only [Function.Embedding.coeFn_mk, ea, eb]
  · exact hd

/-- The duty tokens of device `c`'s own cells. -/
def toks (c : Dev nD) : sProp 𝕄 :=
  iprop((bigSep Finset.univ fun j : Dev nD => dutyTok ER (barCell c) 0 j) ∗ (bigSep Finset.univ fun j : Dev nD => dutyTok ER (sendCell c j) 0 j)
    ∗ bigSep Finset.univ fun j : Dev nD => dutyTok ER (recvCell c j) 0 j)

/-- What the launch element deals device `c`, -/
def G (c : Dev nD) : sProp 𝕄 :=
  iprop((bigSep Finset.univ fun k : Fin 17 => roundState ER (exRd m) (kcell (c, k)) 0)
    ∗ (bigSep Finset.univ fun k : Fin 17 => iprop(atPos ER (kcell (c, k)) 0 ∅ 0 ∗ reached ER (kcell (c, k)) 0)) ∗ toks c)
/-- and what the global step makes of it. -/
def G' (c : Dev nD) : sProp 𝕄 := iprop(∃ K, ghost m K c)

/-- A conjunction over three is three conjuncts. -/
theorem bigSep_three (Φ : Fin 3 → sProp 𝕄) : bigSep Finset.univ Φ = iprop(Φ 0 ∗ Φ 1 ∗ Φ 2) := bigSep_univ_eq_bigSepL [0, 1, 2] (by decide) (by decide) Φ

/-- The tokens about one device, by kind. -/
theorem toks_eq (c : Dev nD) :
    (bigSep Finset.univ fun x : Dev nD × Fin 3 => (dutyTok ER (kcell (c, tokIx x.1 x.2)) 0 x.1 : sProp 𝕄)) = toks c := by
  rw [bigSep_univ_prod, bigSep_congr (s := Finset.univ) fun (j : Dev nD) _ => bigSep_three fun k => (dutyTok ER (kcell (c, tokIx j k)) 0 j : sProp 𝕄), bigSep_sep', bigSep_sep']
  unfold toks
  simp only [tokIx, if_true, show ((1 : Fin 3) = 0) = False from by decide, show ((2 : Fin 3) = 0) = False from by decide,
    show ((2 : Fin 3) = 1) = False from by decide, if_false, kcell_send, kcell_recv]
  rfl

/-- The initial ghost state splits into each device's part. -/
theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 17 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => toks_eq c
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The kernel's own counters at zero, one by one. -/
theorem ownSems0_eq (c : Dev nD) : (Pipeline.ownSems0 (Ix := Unit) (Name := ℕ) (U := UU) (Lvl := ℕ) (Val := Elt F) (τ := τ) osem c : sProp 𝕄)
    = iprop((bigSep Finset.univ fun j : Dev nD => semVal (sendCell c j) 0) ∗ bigSep Finset.univ fun j : Dev nD => semVal (recvCell c j) 0) := by
  unfold Pipeline.ownSems0; exact own_split c fun g => semVal g 0

/-- The counters of a device at zero, by kind. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, cells_split c fun g => semVal g 0]
  iintro ⟨⟨HS, HV⟩, HB⟩
  isplitl [HB]; · iexact HB
  isplitl [HS] <;> iassumption

/-- A device's counters are put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the payments device `c` makes. -/
def payToks (c : Dev nD) : sProp 𝕄 :=
  iprop((bigSep Finset.univ fun j : Dev nD => dutyTok ER (barCell j) 0 c) ∗ (bigSep Finset.univ fun j : Dev nD => dutyTok ER (recvCell j c) 0 c)
    ∗ bigSep Finset.univ fun j : Dev nD => dutyTok ER (sendCell c j) 0 j)
def linear (c : Dev nD) : sProp 𝕄 := iprop((bigSep Finset.univ fun k : Fin 17 => atPos ER (kcell (c, k)) 0 ∅ 0) ∗ payToks c)

/-- The records and a device's linear part are what its body starts from. -/
theorem ghost_intro (K : Dev nD × Fin 17 → ℕ) (c : Dev nD) : iprop(records m K ∗ linear c) ⊢ G' m c := by
  unfold linear payToks G' ghost
  rw [cells_split c fun g => atPos ER g 0 ∅ 0]
  iintro ⟨#HR, ⟨HaB, HaS, HaV⟩, HtB, HtV, HtS⟩
  iexists K
  isplitr; · iexact HR
  isplitl [HaB]; · iexact HaB
  isplitl [HaS]; · iexact HaS
  isplitl [HaV]; · iexact HaV
  isplitl [HtB]; · iexact HtB
  isplitl [HtV]; · iexact HtV
  iexact HtS

/-- The tokens dealt to those who pay: the barrier's and the receive cells' transposed. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    BI.bigSep_univ_comm (fun c j : Dev nD => (dutyTok ER (barCell c) 0 j : sProp 𝕄)),
    BI.bigSep_univ_comm (fun c j : Dev nD => (dutyTok ER (recvCell c j) 0 j : sProp 𝕄))]
  iintro ⟨H1, H2, H3⟩
  isplitl [H1]; · iexact H1
  isplitl [H3]; · iexact H3
  iexact H2

/-- The tokens, dealt by the counter they belong to, are dealt to the devices that pay. -/
theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (exRd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (exRd m) κ (kcell ck) : sProp 𝕄))) $$ HI
  icases HK with ⟨%K, #HI⟩
  ihave Htk := (toks_dealt (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from .rfl))
    isplitl [Hat]; · iexact Hat
    iexact Htk

/-- The global step: every device's semaphores become the cells of the exchange. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How often device `c` is among the last `n` peers device `d` writes to. -/
def hits (d c : Dev nD) : ℕ → ℕ
  | 0 => 0
  | n + 1 => hits d c n + if c = ahead d (7 - n) then 1 else 0
/-- Each peer is addressed just once. -/
theorem hits_seven : ∀ d c : Dev nD, hits d c 7 = if d = c then 0 else 1 := by decide +kernel

/-- Barrier counters are told apart by their device, -/
theorem bar_eq_iff {a b : Dev nD} : Iff (barCell a = barCell b) (a = b) :=
  ⟨fun h => congrArg (fun g : GSem nD τ sig => g.1.1) h, fun h => h ▸ rfl⟩
/-- receive counters by device and source. -/
theorem recv_eq_iff {a b i j : Dev nD} : Iff (recvCell a i = recvCell b j) (a = b ∧ i = j) :=
  ⟨fun h => ⟨congrArg (fun g : GSem nD τ sig => g.1.1) h, by
      have h2 : recvIx i = recvIx j := csem_injective (by rw [csem_recv, csem_recv]; exact congrArg Prod.snd h)
      exact (by decide +kernel : Function.Injective recvIx) h2⟩, fun h => by rw [h.1, h.2]⟩
/-- A receive counter is not a barrier counter. -/
theorem recv_ne_bar (a b i : Dev nD) : recvCell a i ≠ barCell b := fun h => by cases congrArg Prod.snd h

/-- What the copies owe to a receive counter, -/
theorem copies_recv (d c j : Dev nD) : ∀ n, owesCopies d n (recvCell c j) () = if j = d then hits d c n * N else 0
  | 0 => by unfold owesCopies hits; rw [Pi.zero_apply, Finsupp.zero_apply, Nat.zero_mul]; split <;> rfl
  | n + 1 => by
    unfold owesCopies hits
    rw [Pi.add_apply, Finsupp.add_apply, copies_recv d c j n, tallyAt_apply]
    simp only [recv_eq_iff, and_true]
    by_cases h : j = d <;> by_cases h' : c = ahead d (7 - n) <;> simp [h, h', Nat.add_mul]
/-- and to a barrier counter: nothing. -/
theorem copies_bar (d c : Dev nD) : ∀ n, owesCopies d n (barCell c) () = 0
  | 0 => rfl
  | n + 1 => by
    unfold owesCopies
    rw [Pi.add_apply, Finsupp.add_apply, copies_bar d c n, tallyAt_apply, if_neg fun h => recv_ne_bar _ _ _ h.1.symm]
/-- What signals and copies together owe to a receive counter, -/
theorem signals_recv (d c j : Dev nD) : ∀ n, owesSignals d n (recvCell c j) () = if j = d then hits d c 7 * N else 0
  | 0 => copies_recv d c j 7
  | n + 1 => by
    unfold owesSignals
    rw [Pi.add_apply, Finsupp.add_apply, signals_recv d c j n, tallyAt_apply, if_neg (c := recvCell c j = _ ∧ _) fun h => recv_ne_bar _ _ _ h.1]
    rfl
/-- and to a barrier counter. -/
theorem signals_bar (d c : Dev nD) : ∀ n, owesSignals d n (barCell c) () = hits d c n
  | 0 => copies_bar d c 7
  | n + 1 => by
    unfold owesSignals hits
    rw [Pi.add_apply, Finsupp.add_apply, signals_bar d c n, tallyAt_apply]
    simp only [bar_eq_iff, and_true]

/-- A device has seven peers. -/
theorem seven_peers : ∀ c : Dev nD, (∑ d : Dev nD, if d = c then 0 else 1) = 7 := by decide +kernel

/-- All devices together owe a barrier counter seven, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  show (∑ d : Dev nD, owesSignals d 7 (barCell c) ()) = _
  rw [Finset.sum_congr rfl fun d _ => (signals_bar d c 7).trans (hits_seven d c), seven_peers]

/-- and a receive counter one copy. -/
theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  show (∑ d : Dev nD, owesSignals d 7 (recvCell c j) ()) = _
  rw [Finset.sum_congr rfl fun d _ => signals_recv d c j 7, Finset.sum_ite_eq, if_pos (Finset.mem_univ _),
    hits_seven, if_neg h, Nat.one_mul]

/-- What is owed to a device's counters at the launch is what it will wait for. -/
theorem creds (c : Dev nD) :
    (Pipeline.launchCred O₀ c : sProp 𝕄) ⊢ iprop(cred (tallyAt (barCell c) () 7) ∗ bigSep (Finset.univ.erase c) fun j : Dev nD => cred (tallyAt (recvCell c j) () N)) := by
  unfold Pipeline.launchCred
  rw [bigSep_univ_at _ (SemLoc.reg barS), launch_bar]
  refine sep_mono_right ?_
  have hj : Function.Injective (fun j : Dev nD => (SemLoc.dma (recvS j) : SemLoc sig)) := fun i j h => ((recv_eq_iff (a := c) (b := c) (i := i) (j := j)).mp (Prod.ext rfl h)).2
  refine (BI.bigSep_subset (t := (Finset.univ.erase c).map ⟨fun j : Dev nD => (SemLoc.dma (recvS j) : SemLoc sig), hj⟩) fun s hs => ?_).trans ?_
  · obtain ⟨j, -, rfl⟩ := Finset.mem_map.mp hs
    exact Finset.mem_erase.mpr ⟨fun h => (by cases h), Finset.mem_univ _⟩
  · rw [BI.bigSep_map]
    exact Entails.of_eq (bigSep_congr fun j hj => congrArg _ (launch_recv c j (Finset.mem_erase.mp hj).1))

/-! ## The run -/

/-- What a device holds at its start, as the run of its body wants it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- The same, with its buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- What a device holds at its end gives back its buffers and counters. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratches
  iintro ⟨Hr, HzS, HzV, HzB⟩
  isplitl [HzB]; · iexact HzB
  isplitl [HzS HzV]
  · isplitl [HzS] <;> iassumption
  iexact Hr

/-- The staging copies of the launch wait below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, whatever the floats are: every weakly fair execution of the eight devices
    terminates, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

end Cert.Exchange

end
-- ==== Proof.Frames.lean ====
/-
What the run of the kernel leaves: the arguments unchanged, the result at the accumulated sum, the counters at zero.
-/
module

public import proofs.«01_k».proof.Proof.Launch
public import proofs.«01_k».proof.Defs
public import proofs.«01_k».proof.Proof.Gen.Kernel
public import proofs.«01_k».proof.Proof.Gen.KernelIdeal

@[expose] public section

noncomputable section

namespace Cert.Exchange

open Idealize.ShloMosaic Idealize.SL.Sem Idealize.SL.BI
open Cert.KernelIdeal Cert.KernelIdeal.Gen Idealize.ShloMosaic

variable {F : FTy → Type} [FloatOps F]
variable (m : (ℓ : Loc nD τ sig) → Buf (Elt F) ℓ) (ρ : Dev nD → PrngReg)

/-- Device `c`'s memory after the run: its result holds the accumulated sum and its arguments what they held. -/
def Ends (r : PUnit × MemSt nD τ sig (Elt F)) : Prop :=
  ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-! Each window is its whole array: reading it is reading the array. -/

/-- An input's single block is the whole array: of `x`, -/
theorem whole_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
/-- of `Wq`, -/
theorem whole_wq (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
/-- of the keys, -/
theorem whole_k (f : (main_arg2 : Ref sig .tc).ty.Contents (Elt F)) : (win0_2.blk (0 : Fin 1)).view.read (Elt F) f = f :=
  Memref.read_access_unit_zero (Elt F) main_arg2 (funext fun a => by fin_cases a <;> decide) (fun a => by fin_cases a <;> decide) f
/-- of the values, -/
theorem whole_v (f : (main_arg3 : Ref sig .tc).ty.Contents (Elt F)) : (win0_3.blk (0 : Fin 1)).view.read (Elt F) f = f :=
  Memref.read_access_unit_zero (Elt F) main_arg3 (funext fun a => by fin_cases a <;> decide) (fun a => by fin_cases a <;> decide) f
/-- of `Wo`, -/
theorem whole_wo (f : (main_arg4 : Ref sig .tc).ty.Contents (Elt F)) : (win0_4.blk (0 : Fin 1)).view.read (Elt F) f = f :=
  Memref.read_access_unit_zero (Elt F) main_arg4 (funext fun a => by fin_cases a <;> decide) (fun a => by fin_cases a <;> decide) f
/-- and of the result. -/
theorem whole_out (f : (main_v1 : Ref sig .tc).ty.Contents (Elt F)) : (win0_5.blk (0 : Fin 1)).view.read (Elt F) f = f :=
  Memref.read_access_unit_zero (Elt F) main_v1 (funext fun a => by fin_cases a <;> decide) (fun a => by fin_cases a <;> decide) f

/-- What is staged is what the argument holds: `x`, -/
theorem xS_eq (c : Dev nD) : xS m c = m ((c.tc : Thread nD τ).loc main_arg0) := whole_x _
/-- `Wq`, -/
theorem wqS_eq (c : Dev nD) : wqS m c = m ((c.tc : Thread nD τ).loc main_arg1) := whole_wq _
/-- the keys, -/
theorem kS_eq (c : Dev nD) : kS m c = m ((c.tc : Thread nD τ).loc main_arg2) := whole_k _
/-- the values, -/
theorem vS_eq (c : Dev nD) : vS m c = m ((c.tc : Thread nD τ).loc main_arg3) := whole_v _
/-- `Wo`. -/
theorem woS_eq (c : Dev nD) : woS m c = m ((c.tc : Thread nD τ).loc main_arg4) := whole_wo _

/-- The result's array after the run: its one block is written back whole. -/
theorem finalA_out (c : Dev nD) : finalA m ρ c 5 = outAt m c := by
  have hw : ((cfg0.win 5).blk t₀).view.read (Elt F) ((dats (F := F) m ρ 0 c).arrAt 5 cfg0.N) = outAt m c := by
    rw [show cfg0.N = t₀.val + 1 from rfl, (dats (F := F) m ρ 0 c).arrAt_succ (5 : Fin 6) t₀, flush0_5, if_pos rfl]
    exact View.read_write_univ _ _
  exact (whole_out _).symm.trans hw

/-- The run of the kernel over any float values. -/
theorem run_ends : θ_run defs (onTc (τ := τ) (main (F := F))) ⟨m, fun _ => 0, ρ⟩ (fun r => Ends m r ∧ r.2.sem = fun _ => 0) :=
  (θ_run defs _ _).mono (fun _ h => ⟨fun c =>
    ⟨(h.1 c 5).trans (finalA_out m ρ c), (h.1 c 0).trans (finalA_in m ρ c 0 rfl), (h.1 c 1).trans (finalA_in m ρ c 1 rfl),
      (h.1 c 2).trans (finalA_in m ρ c 2 rfl), (h.1 c 3).trans (finalA_in m ρ c 3 rfl), (h.1 c 4).trans (finalA_in m ρ c 4 rfl)⟩, h.2⟩) (run_main m ρ)

/-- The idealized kernel runs and leaves its arguments alone. -/
theorem frame_kernelIdeal : Cert.quiescent_KernelIdeal := fun m ρ _ =>
  (θ_run defs _ _).mono (fun _ h => ⟨fun c => (h.1 c).2, h.2⟩) (run_ends (F := Ideal) m ρ)

/-- The table of the printed kernel's body is the idealized one's: the two programs have the same text. -/
theorem tables_eq : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So are the tables of the whole programs. -/
theorem defs_eq : Cert.Kernel.defs (F := F) = Cert.KernelIdeal.defs := congrArg (Pipeline.defs pcfgs) tables_eq

/-- The kernel as printed runs too, and leaves its arguments alone. -/
theorem frame_kernel : Cert.quiescent_Kernel := fun m ρ _ => by
  rw [defs_eq]
  exact (θ_run defs _ _).mono (fun _ h => ⟨fun c => (h.1 c).2, h.2⟩) (run_ends (F := Bits) m ρ)

end Cert.Exchange

end
-- ==== Proof.Block.lean ====
/-
One block's contribution over the extended reals: what a step of the kernel's accumulation adds, read at an index.
-/
module

public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.Exchange

open Idealize.ShloMosaic Idealize.ShloMosaic.TcCoe Idealize.SL.Sem
open Cert.KernelIdeal Cert.KernelIdeal.Gen

/-! ## The softmax of one row -/

/-- The greatest of a row of scores. -/
def top {n : ℕ} (s : Fin n → EReal) : EReal := Finset.univ.fold max ⊥ s
/-- A score's weight before normalisation: its exponential relative to the row's greatest. -/
def bump {n : ℕ} (s : Fin n → EReal) (j : Fin n) : EReal := Ideal.exp (s j - top s)
/-- A score's softmax weight. -/
def weight {n : ℕ} (s : Fin n → EReal) (j : Fin n) : EReal := Ideal.div (bump s j) (∑ l, bump s l)

/-! ## The stages of a step -/

abbrev XBlk := FVec Ideal S512x512 .bf16
abbrev WBlk := Vec Ideal S1x1024x256 .bf16
abbrev HBlk := Vec Ideal S1x32x64x64 .bf16

/-- The queries of the four heads, head by head and block by block. -/
def queries (x : XBlk) (w : WBlk) : FVec Ideal S32x64x64 .bf16 :=
  shapeCast S32x64x64 (transpose S4x2x4x64x64 [3, 0, 1, 2, 4] (shapeCast S2x4x64x4x64 (truncf .bf16 (matmul dot_S512x512_S512x256_S512x256_1_0_0_1_n_n none x
    (extractStridedSlice S512x256 ![0, 0] (shapeCast S1024x256 w shapeCasts_S1x1024x256_S1024x256 : FVec Ideal S1024x256 .bf16) slices_S1024x256_o0_0_S512x256 : FVec Ideal S512x256 .bf16)
    (constant S512x256 .f32 0x00000000#32)) bitsLt_bf16_f32) shapeCasts_S512x256_S2x4x64x4x64) transposes_S2x4x64x4x64_p3_0_1_2_4_S4x2x4x64x64) shapeCasts_S4x2x4x64x64_S32x64x64

/-- The scores within each block. -/
def scores (q : FVec Ideal S32x64x64 .bf16) (k : HBlk) : FVec Ideal S32x64x64 .f32 :=
  mulf (matmul dot_S32x64x64_S32x64x64_S32x64x64_2_2_1_1_0_0 none q (shapeCast S32x64x64 k shapeCasts_S1x32x64x64_S32x64x64 : FVec Ideal S32x64x64 .bf16) (constant S32x64x64 .f32 0x00000000#32))
    (broadcast S32x64x64 (Scalar.ofBits .f32 0x3E000000#32))

/-- Their exponentials relative to each row's greatest, -/
def bumps (s : FVec Ideal S32x64x64 .f32) : FVec Ideal S32x64x64 .f32 :=
  exp (subf s (broadcastTo S32x64x64 (shapeCast S32x64x1 (multiReduction .maximumf [2] S32x64 s 0xFF800000#32 reduces_S32x64x64_S32x64 (.inl rfl) rfl) shapeCasts_S32x64_S32x64x1) broadcasts_S32x64x1_S32x64x64))
/-- and those over each row's sum. -/
def normed (e : FVec Ideal S32x64x64 .f32) : FVec Ideal S32x64x64 .bf16 :=
  truncf .bf16 (divf e (broadcastTo S32x64x64 (shapeCast S32x64x1 (multiReduction .add [2] S32x64 e 0x00000000#32 reduces_S32x64x64_S32x64 (.inl rfl) rfl) shapeCasts_S32x64_S32x64x1) broadcasts_S32x64x1_S32x64x64)) bitsLt_bf16_f32

/-- The weighted values, laid out row by row again. -/
def context (p : FVec Ideal S32x64x64 .bf16) (v : HBlk) : FVec Ideal S512x256 .bf16 :=
  truncf .bf16 (shapeCast S512x256 (transpose S2x4x64x4x64 [1, 2, 3, 0, 4] (shapeCast S4x2x4x64x64 (matmul dot_S32x64x64_S32x64x64_S32x64x64_2_1_1_2_0_0 none p
    (shapeCast S32x64x64 v shapeCasts_S1x32x64x64_S32x64x64 : FVec Ideal S32x64x64 .bf16) (constant S32x64x64 .f32 0x00000000#32)) shapeCasts_S32x64x64_S4x2x4x64x64)
    transposes_S4x2x4x64x64_p1_2_3_0_4_S2x4x64x4x64) shapeCasts_S2x4x64x4x64_S512x256) bitsLt_bf16_f32

/-- The context times the output projection. -/
def projected (t : FVec Ideal S512x256 .bf16) (w : WBlk) : FVec Ideal S512x512 .f32 :=
  matmul dot_S512x256_S512x256_S512x512_1_1_0_0_n_n none t
    (extractStridedSlice S512x256 ![512, 0] (shapeCast S1024x256 w shapeCasts_S1x1024x256_S1024x256 : FVec Ideal S1024x256 .bf16) slices_S1024x256_o512_0_S512x256 : FVec Ideal S512x256 .bf16)
    (constant S512x512 .f32 0x00000000#32)

/-- A step of the accumulation, as its stages. -/
theorem step_eq (x : XBlk) (a : FVec Ideal S512x512 .f32) (w : WBlk) (k v : HBlk) :
    k0_pay27 x a w k v = addf a (projected (context (normed (bumps (scores (queries x w) k))) v) w) := rfl

/-! ## The stages at an index -/

/-- A query is a row of `x` times a column of the query projection. -/
theorem queries_apply (x : XBlk) (w : WBlk) (β : Fin 32) (i d : Fin 64) :
    queries x w (ix3 β i d) = ∑ t : Fin 512, x (ix2 ⟨β.val / 4 % 2 * 256 + β.val % 4 * 64 + i.val, by omega⟩ t)
      * w (ix3 0 ⟨t.val, by omega⟩ ⟨β.val / 8 * 64 + d.val, by omega⟩) := by
  pointwise [queries]

/-- A score is a query times a key, times the factor. -/
theorem scores_apply (q : FVec Ideal S32x64x64 .bf16) (k : HBlk) (β : Fin 32) (i j : Fin 64) :
    scores q k (ix3 β i j) = (∑ d : Fin 64, q (ix3 β i d) * k (ix4 0 β j d)) * Ideal.ofBits .f32 0x3E000000#32 := by
  pointwise [scores]

/-- The bits from which a row's maximum starts are those of minus infinity. -/
theorem lowest_bits : Ideal.ofBits .f32 0xFF800000#32 = (⊥ : EReal) := by
  simp [Ideal.ofBits, Ideal.ieee]

/-- The exponentials of a row of scores are those of the row's softmax. -/
theorem bumps_apply (s : FVec Ideal S32x64x64 .f32) (β : Fin 32) (i j : Fin 64) :
    bumps s (ix3 β i j) = bump (fun l : Fin 64 => s (ix3 β i l)) j := by
  pointwise [bumps, bump, top, lowest_bits]

/-- A weight is an exponential over the sum of its row. -/
theorem normed_apply (e : FVec Ideal S32x64x64 .f32) (β : Fin 32) (i j : Fin 64) :
    normed e (ix3 β i j) = Ideal.div (e (ix3 β i j)) (∑ l : Fin 64, e (ix3 β i l)) := by
  pointwise [normed]

/-- The context at a row and a column is the weighted sum of the values of that row's block. -/
theorem context_apply (p : FVec Ideal S32x64x64 .bf16) (v : HBlk) (a : Fin 512) (f : Fin 256) :
    context p v (ix2 a f) = ∑ j : Fin 64, p (ix3 ⟨f.val / 64 * 8 + a.val / 256 * 4 + a.val / 64 % 4, by omega⟩ ⟨a.val % 64, by omega⟩ j)
      * v (ix4 0 ⟨f.val / 64 * 8 + a.val / 256 * 4 + a.val / 64 % 4, by omega⟩ j ⟨f.val % 64, by omega⟩) := by
  pointwise [context]

/-- The projection is a row of the context times a column of the output projection, which lies transposed. -/
theorem projected_apply (t : FVec Ideal S512x256 .bf16) (w : WBlk) (a e : Fin 512) :
    projected t w (ix2 a e) = ∑ f : Fin 256, t (ix2 a f) * w (ix3 0 ⟨512 + e.val, by omega⟩ f) := by
  pointwise [projected]

/-! ## The operands at an index -/

/-- The rows of `x`, batch after batch. -/
theorem rows_apply (X : Vec Ideal S2x256x512 .bf16) (b : Fin 2) (r : Fin 256) (t : Fin 512) :
    k0_pay6 X (ix2 ⟨b.val * 256 + r.val, by omega⟩ t) = X (ix3 b r t) := by
  pointwise [k0_pay6]

/-- The keys, laid out by owner, then by head, batch and block. -/
theorem keys_apply (K : Vec Ideal S2x256x32x64 .bf16) (o : Fin 8) (β : Fin 32) (j d : Fin 64) :
    k0_pay3 K (ix4 o β j d)
      = K (ix4 ⟨β.val / 4 % 2, by omega⟩ ⟨β.val % 4 * 64 + j.val, by omega⟩ ⟨o.val * 4 + β.val / 8, by omega⟩ d) := by
  pointwise [k0_pay3]

/-- The values, laid out the same way. -/
theorem vals_apply (V : Vec Ideal S2x256x32x64 .bf16) (o : Fin 8) (β : Fin 32) (j d : Fin 64) :
    k0_pay5 (k0_pay4 V) (ix4 o β j d)
      = V (ix4 ⟨β.val / 4 % 2, by omega⟩ ⟨β.val % 4 * 64 + j.val, by omega⟩ ⟨o.val * 4 + β.val / 8, by omega⟩ d) := by
  pointwise [k0_pay4, k0_pay5]

/-- The query projection goes into its slot as it is, -/
theorem wq_apply (W : Vec Ideal S512x256 .bf16) (t : Fin 512) (f : Fin 256) :
    k0_pay1 W (ix3 0 t f) = W (ix2 t f) := by
  pointwise [k0_pay1]

/-- the output projection transposed. -/
theorem wo_apply (W : Vec Ideal S256x512 .bf16) (t : Fin 512) (f : Fin 256) :
    k0_pay2 W (ix3 0 t f) = W (ix2 f t) := by
  pointwise [k0_pay2]

/-- The accumulation starts from zero. -/
theorem zero_apply (a e : Fin 512) : (k0_pay7 : FVec Ideal S512x512 .f32) (ix2 a e) = 0 := by
  pointwise [k0_pay7]

/-! ## What one owner's heads contribute -/

section Contribution

variable (X : Vec Ideal S2x256x512 .bf16) (W : Vec Ideal S512x256 .bf16) (K V : Vec Ideal S2x256x32x64 .bf16)
variable (U : Vec Ideal S256x512 .bf16) (o : Fin 8) (b : Fin 2) (r : Fin 256)

/-- The head column `f` of owner `o` belongs to. -/
def headOf (f : Fin 256) : Fin 32 := ⟨o.val * 4 + f.val / 64, by omega⟩
/-- Row `j` of the block of 64 that row `r` lies in. -/
def mate (j : Fin 64) : Fin 256 := ⟨r.val / 64 * 64 + j.val, by omega⟩
/-- Column `d` of the 64 that column `f` lies among. -/
def sibling (f : Fin 256) (d : Fin 64) : Fin 256 := ⟨f.val / 64 * 64 + d.val, by omega⟩

/-- The query of row `r` at column `g`. -/
def query (g : Fin 256) : EReal := ∑ t : Fin 512, X (ix3 b r t) * W (ix2 t g)
/-- The score of row `r` against row `l` of its block, in the head of column `f`. -/
def score (f : Fin 256) (l : Fin 64) : EReal :=
  (∑ d : Fin 64, query X W b r (sibling f d) * K (ix4 b (mate r l) (headOf o f) d)) * Ideal.ofBits .f32 0x3E000000#32
/-- The weighted values of row `r` at column `f`. -/
def mixed (f : Fin 256) : EReal :=
  ∑ j : Fin 64, weight (score X W K o b r f) j * V (ix4 b (mate r j) (headOf o f) ⟨f.val % 64, by omega⟩)
/-- What the owner's heads add to the output of row `r` at column `e`. -/
def given (e : Fin 512) : EReal := ∑ f : Fin 256, mixed X W K V o b r f * U (ix2 f e)

variable {w : WBlk} {k v : HBlk}

/-- A step adds what the owner's heads contribute. -/
theorem step_apply (hw : ∀ t f, w (ix3 0 ⟨t.val, by omega⟩ f) = W (ix2 (n0 := 512) t f))
    (hu : ∀ (e : Fin 512) f, w (ix3 0 ⟨512 + e.val, by omega⟩ f) = U (ix2 f e))
    (hk : ∀ β j d, k (ix4 0 β j d) = K (ix4 ⟨β.val / 4 % 2, by omega⟩ ⟨β.val % 4 * 64 + j.val, by omega⟩ ⟨o.val * 4 + β.val / 8, by omega⟩ d))
    (hv : ∀ β j d, v (ix4 0 β j d) = V (ix4 ⟨β.val / 4 % 2, by omega⟩ ⟨β.val % 4 * 64 + j.val, by omega⟩ ⟨o.val * 4 + β.val / 8, by omega⟩ d))
    (a : FVec Ideal S512x512 .f32) (e : Fin 512) :
    k0_pay27 (k0_pay6 X) a w k v (ix2 ⟨b.val * 256 + r.val, by omega⟩ e)
      = a (ix2 ⟨b.val * 256 + r.val, by omega⟩ e) + given X W K V U o b r e := by
  rw [step_eq]
  show _ + _ = _
  congr 1
  rw [projected_apply]
  unfold given
  refine Finset.sum_congr rfl fun f _ => ?_
  rw [hu, context_apply]
  congr 1
  unfold mixed
  refine Finset.sum_congr rfl fun j _ => ?_
  rw [hv, normed_apply]
  simp only [bumps_apply]
  have e1 : ∀ l : Fin 64, scores (queries (k0_pay6 X) w) k
      (ix3 ⟨f.val / 64 * 8 + (b.val * 256 + r.val) / 256 * 4 + (b.val * 256 + r.val) / 64 % 4, by omega⟩ ⟨(b.val * 256 + r.val) % 64, by omega⟩ l)
      = score X W K o b r f l := fun l => by
    rw [scores_apply]
    unfold score
    congr 1
    refine Finset.sum_congr rfl fun d _ => ?_
    rw [hk, queries_apply]
    unfold query
    congr 1
    · refine Finset.sum_congr rfl fun t _ => ?_
      rw [hw, ← rows_apply X b r t]
      congr 3 <;> simp only [sibling, Fin.ext_iff] <;> omega
    · congr 2 <;> simp only [mate, headOf, Fin.ext_iff] <;> omega
  unfold weight
  simp only [e1]
  refine congrArg₂ (· * ·) rfl (congrArg V ?_)
  congr 1 <;> simp only [mate, headOf, Fin.ext_iff] <;> omega

end Contribution

end Cert.Exchange

end
-- ==== Proof.KernelValue.lean ====
/-
The kernel's result over the extended reals: the sum over the owners of what their heads contribute.
-/
module

public import proofs.«01_k».proof.Proof.Block
public import proofs.«01_k».proof.Proof.Frames

@[expose] public section

set_option maxRecDepth 16384

noncomputable section

namespace Cert.Exchange

open Idealize.ShloMosaic Idealize.ShloMosaic.TcCoe Idealize.SL.Sem
open Cert.KernelIdeal Cert.KernelIdeal.Gen

variable (m : (ℓ : Loc nD τ sig) → Buf (Elt Ideal) ℓ)

/-! ## The loaded operands at an index -/

/-- The first 512 rows of a slot are its owner's part of the query projection, -/
theorem slot_top (o : Dev nD) (t : Fin 512) (f : Fin 256) :
    slotVal m o (ix3 0 ⟨t.val, by omega⟩ f) = (wqS m o : Vec Ideal S512x256 .bf16) (ix2 t f) := by
  have he : (slotR o).emb (ix3 (n0 := 1) (n1 := 1024) (n2 := 256) 0 ⟨t.val, by omega⟩ f) = ix3 (n0 := 8) (n1 := 1024) (n2 := 256) o ⟨t.val, by omega⟩ f := by
    refine Shape.idx3_ext ?_ ?_ ?_ <;> rw [ValueKit.rect_emb_unit_val] <;> simp
  show packed m ((slotR o).emb (ix3 0 ⟨t.val, by omega⟩ f)) = _
  rw [he]
  unfold packed
  refine (dif_pos (show t.val < 512 from t.isLt)).trans ?_
  exact wq_apply _ t f

/-- and the others its part of the output projection. -/
theorem slot_low (o : Dev nD) (e : Fin 512) (f : Fin 256) :
    slotVal m o (ix3 0 ⟨512 + e.val, by omega⟩ f) = (woS m o : Vec Ideal S256x512 .bf16) (ix2 f e) := by
  have he : (slotR o).emb (ix3 (n0 := 1) (n1 := 1024) (n2 := 256) 0 ⟨512 + e.val, by omega⟩ f) = ix3 (n0 := 8) (n1 := 1024) (n2 := 256) o ⟨512 + e.val, by omega⟩ f := by
    refine Shape.idx3_ext ?_ ?_ ?_ <;> rw [ValueKit.rect_emb_unit_val] <;> simp
  show packed m ((slotR o).emb (ix3 0 ⟨512 + e.val, by omega⟩ f)) = _
  rw [he]
  unfold packed
  refine (dif_neg (show ¬ (512 + e.val < 512) by omega)).trans ?_
  refine (congrArg (k0_pay2 (woS m o)) ?_).trans (wo_apply _ e f)
  refine Shape.idx3_ext rfl ?_ rfl
  show 512 + e.val - 512 = e.val
  omega

/-- Where an owner's heads lie in the rearranged keys and values. -/
theorem heads_emb (o : Dev nD) (β : Fin 32) (j d : Fin 64) :
    (headsR o).emb (ix4 (n0 := 1) (n1 := 32) (n2 := 64) (n3 := 64) 0 β j d) = ix4 (n0 := 8) (n1 := 32) (n2 := 64) (n3 := 64) o β j d := by
  funext a
  refine Fin.ext ?_
  rw [ValueKit.rect_emb_unit_val]
  fin_cases a <;> simp

/-- The loaded keys of an owner's heads, -/
theorem kVal_apply (c o : Dev nD) (β : Fin 32) (j d : Fin 64) :
    kVal m c o (ix4 0 β j d) = (kS m c : Vec Ideal S2x256x32x64 .bf16)
      (ix4 ⟨β.val / 4 % 2, by omega⟩ ⟨β.val % 4 * 64 + j.val, by omega⟩ ⟨o.val * 4 + β.val / 8, by have : o.val < 8 := o.isLt; omega⟩ d) := by
  show kScr m c ((headsR o).emb (ix4 0 β j d)) = _
  rw [heads_emb]
  exact keys_apply _ o β j d

/-- and its values. -/
theorem vVal_apply (c o : Dev nD) (β : Fin 32) (j d : Fin 64) :
    vVal m c o (ix4 0 β j d) = (vS m c : Vec Ideal S2x256x32x64 .bf16)
      (ix4 ⟨β.val / 4 % 2, by omega⟩ ⟨β.val % 4 * 64 + j.val, by omega⟩ ⟨o.val * 4 + β.val / 8, by have : o.val < 8 := o.isLt; omega⟩ d) := by
  show vScr m c ((headsR o).emb (ix4 0 β j d)) = _
  rw [heads_emb]
  exact vals_apply _ o β j d

/-! ## The accumulation -/

/-- What owner `o`'s heads contribute to device `c`'s row `r` of batch `b` at column `e`. -/
def part (c o : Dev nD) (b : Fin 2) (r : Fin 256) (e : Fin 512) : EReal :=
  given (xS m c) (wqS m o) (kS m c) (vS m c) (woS m o) o b r e

/-- After `n` steps the accumulation holds the contributions of the first `n` sources. -/
theorem accAt_apply (c : Dev nD) (b : Fin 2) (r : Fin 256) (e : Fin 512) (n : ℕ) :
    accAt m c n (ix2 ⟨b.val * 256 + r.val, by omega⟩ e) = ∑ k ∈ Finset.range n, part m c (behind c k) b r e := by
  induction n with
  | zero => exact zero_apply _ _
  | succ n ih =>
    rw [Finset.sum_range_succ, ← ih]
    exact step_apply _ _ _ _ _ (behind c n) b r (slot_top m _) (slot_low m _) (kVal_apply m c _) (vVal_apply m c _) _ e

/-- Going eight places back visits every device once. -/
theorem behind_bij : ∀ c : Dev nD, Function.Bijective fun k : Fin 8 => behind c k.val := by decide +kernel

/-- The result of device `c` is the sum over all the owners. -/
theorem outAt_apply (c : Dev nD) (b : Fin 2) (r : Fin 256) (e : Fin 512) :
    (outAt m c : FVec Ideal S2x256x512 .f32) (ix3 b r e) = ∑ o : Dev nD, part m c o b r e := by
  have h : (outAt m c : FVec Ideal S2x256x512 .f32) (ix3 b r e) = accAt m c 8 (ix2 ⟨b.val * 256 + r.val, by omega⟩ e) := by
    pointwise [outAt]
  rw [h, accAt_apply, Finset.sum_range]
  exact (behind_bij c).sum_comp fun o => part m c o b r e

end Cert.Exchange

end
-- ==== Proof.RefValue.lean ====
/-
The reference's result over the extended reals, read at an index.
-/
module

public import proofs.«01_k».proof.Proof.Gen.ReferenceIdeal.Run
public import proofs.«01_k».proof.Proof.Block
public import Idealize.ShloMosaic.Lib.Tactic.CleanTypes
public import Idealize.ShloMosaic.Lib.Routing.OpsOrder

@[expose] public section

set_option maxRecDepth 16384

noncomputable section

namespace Cert.Reference

open Idealize.ShloMosaic Idealize.ShloMosaic.TcCoe Idealize.SL.Sem
open Cert.ReferenceIdeal Cert.ReferenceIdeal.Gen Cert.ReferenceIdeal.Value

/-! ## The stages of the reference -/

/-- The block each query row lies in. -/
def qBlock : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
/-- The block each key row lies in. -/
def kBlock : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The divisor of the remainders. -/
def four : IVec S_ 32 :=
  select (cmpi .eq (id (constantI S_ 32 4#32)) (constantI S_ 32 0#32)) (constantI S_ 32 1#32) (id (constantI S_ 32 4#32))
/-- Each key row's block, modulo four. -/
def kMod : IVec S1x256 32 :=
  select (andi (cmpi .ne (cmpi .slt (Host.remsi (broadcastInDim S1x256 ![1] bcast_S256_S1x256_1 kBlock) (broadcastInDim S1x256 ![] bcast_S_S1x256 four)) (broadcastInDim S1x256 ![] bcast_S_S1x256 (constantI S_ 32 0#32))) (broadcastInDim S1x256 ![] bcast_S_S1x256 (cmpi .slt four (constantI S_ 32 0#32)))) (cmpi .ne (Host.remsi (broadcastInDim S1x256 ![1] bcast_S256_S1x256_1 kBlock) (broadcastInDim S1x256 ![] bcast_S_S1x256 four)) (broadcastInDim S1x256 ![] bcast_S_S1x256 (constantI S_ 32 0#32)))) (addi (Host.remsi (broadcastInDim S1x256 ![1] bcast_S256_S1x256_1 kBlock) (broadcastInDim S1x256 ![] bcast_S_S1x256 four)) (broadcastInDim S1x256 ![] bcast_S_S1x256 four)) (Host.remsi (broadcastInDim S1x256 ![1] bcast_S256_S1x256_1 kBlock) (broadcastInDim S1x256 ![] bcast_S_S1x256 four))
/-- Each query row's block, modulo four. -/
def qMod : IVec S2048x1 32 :=
  select (andi (cmpi .ne (cmpi .slt (Host.remsi (broadcastInDim S2048x1 ![0] bcast_S2048_S2048x1_0 qBlock) (broadcastInDim S2048x1 ![] bcast_S_S2048x1 four)) (broadcastInDim S2048x1 ![] bcast_S_S2048x1 (constantI S_ 32 0#32))) (broadcastInDim S2048x1 ![] bcast_S_S2048x1 (cmpi .slt four (constantI S_ 32 0#32)))) (cmpi .ne (Host.remsi (broadcastInDim S2048x1 ![0] bcast_S2048_S2048x1_0 qBlock) (broadcastInDim S2048x1 ![] bcast_S_S2048x1 four)) (broadcastInDim S2048x1 ![] bcast_S_S2048x1 (constantI S_ 32 0#32)))) (addi (Host.remsi (broadcastInDim S2048x1 ![0] bcast_S2048_S2048x1_0 qBlock) (broadcastInDim S2048x1 ![] bcast_S_S2048x1 four)) (broadcastInDim S2048x1 ![] bcast_S_S2048x1 four)) (Host.remsi (broadcastInDim S2048x1 ![0] bcast_S2048_S2048x1_0 qBlock) (broadcastInDim S2048x1 ![] bcast_S_S2048x1 four))
/-- Which keys each query sees. -/
def sees : IVec S2048x256 1 :=
  ori (cmpi .eq (broadcastInDim S2048x256 ![0, 1] bcast_S2048x1_S2048x256_0_1 (broadcastInDim S2048x1 ![0] bcast_S2048_S2048x1_0 qBlock)) (broadcastInDim S2048x256 ![0, 1] bcast_S1x256_S2048x256_0_1 (broadcastInDim S1x256 ![1] bcast_S256_S1x256_1 kBlock))) (cmpi .eq (broadcastInDim S2048x256 ![0, 1] bcast_S1x256_S2048x256_0_1 kMod) (broadcastInDim S2048x256 ![0, 1] bcast_S2048x1_S2048x256_0_1 qMod))
/-- Which queries see any key. -/
def seesAny : IVec S2048 1 :=
  Host.reduce IntOp.ori sees (constantI S_ 1 0#1) reducesTo_S2048x256_S2048_d1 h_S_
/-- All queries. -/
def allQueries (X : Vec Ideal S2x2048x512 .bf16) (W : Vec Ideal S512x2048 .bf16) : FVec Ideal S2x2048x2048 .f32 :=
  Host.dotGeneral dot_S2x2048x512_S512x2048_S2x2048x2048_2_0_01_1_n_n none (extf .f32 X bitsLt_bf16_f32) (extf .f32 W bitsLt_bf16_f32)
/-- The masked scores. -/
def allScores (Q : FVec Ideal S2x2048x2048 .f32) (K : Vec Ideal S2x256x32x64 .bf16) : FVec Ideal S2x32x2048x256 .f32 :=
  select (broadcastInDim S2x32x2048x256 ![0, 1, 2, 3] bcast_S1x1x2048x256_S2x32x2048x256_0_1_2_3 (broadcastInDim S1x1x2048x256 ![2, 3] bcast_S2048x256_S1x1x2048x256_2_3 sees)) (mulf (Host.dotGeneral dot_S2x2048x32x64_S2x256x32x64_S2x32x2048x256_3_3_1_1_02_02 none (shapeCast S2x2048x32x64 Q shapeCasts_S2x2048x2048_S2x2048x32x64) (extf .f32 K bitsLt_bf16_f32)) (broadcastInDim S2x32x2048x256 ![] bcast_S_S2x32x2048x256 (constant S_ .f32 0x3E000000#32))) (broadcastInDim S2x32x2048x256 ![] bcast_S_S2x32x2048x256 (id (constant S_ .f32 0xFF800000#32)))
/-- Their exponentials relative to each row's greatest. -/
def allBumps (S : FVec Ideal S2x32x2048x256 .f32) : FVec Ideal S2x32x2048x256 .f32 :=
  Host.exp (subf S (broadcastInDim S2x32x2048x256 ![0, 1, 2, 3] bcast_S2x32x2048x1_S2x32x2048x256_0_1_2_3 (broadcastInDim S2x32x2048x1 ![0, 1, 2] bcast_S2x32x2048_S2x32x2048x1_0_1_2 (Host.reduce FloatOps.maximumf S (constant S_ .f32 0xFF800000#32) reducesTo_S2x32x2048x256_S2x32x2048_d3 h_S_))))
/-- The softmax weights. -/
def allWeights (E : FVec Ideal S2x32x2048x256 .f32) : FVec Ideal S2x32x2048x256 .f32 :=
  select (broadcastInDim S2x32x2048x256 ![0, 1, 2, 3] bcast_S1x1x2048x1_S2x32x2048x256_0_1_2_3 (broadcastInDim S1x1x2048x1 ![2] bcast_S2048_S1x1x2048x1_2 seesAny)) (Host.divf E (broadcastInDim S2x32x2048x256 ![0, 1, 2, 3] bcast_S2x32x2048x1_S2x32x2048x256_0_1_2_3 (select (broadcastInDim S2x32x2048x1 ![0, 1, 2, 3] bcast_S1x1x2048x1_S2x32x2048x1_0_1_2_3 (broadcastInDim S1x1x2048x1 ![2] bcast_S2048_S1x1x2048x1_2 seesAny)) (broadcastInDim S2x32x2048x1 ![0, 1, 2] bcast_S2x32x2048_S2x32x2048x1_0_1_2 (Host.reduceAdd E (constant S_ .f32 0x00000000#32) reducesTo_S2x32x2048x256_S2x32x2048_d3 h_S_)) (broadcastInDim S2x32x2048x1 ![] bcast_S_S2x32x2048x1 (id (constant S_ .f32 0x3F800000#32)))))) (broadcastInDim S2x32x2048x256 ![] bcast_S_S2x32x2048x256 (id (constant S_ .f32 0x00000000#32)))
/-- The weighted values, head after head. -/
def allMixed (P : FVec Ideal S2x32x2048x256 .f32) (V : Vec Ideal S2x256x32x64 .bf16) : FVec Ideal S2x2048x2048 .f32 :=
  shapeCast S2x2048x2048 (transpose S2x2048x32x64 [0, 3, 1, 2] (Host.dotGeneral dot_S2x256x32x64_S2x32x2048x256_S2x32x64x2048_1_3_3_2_02_01 none (extf .f32 V bitsLt_bf16_f32) P) transposes_S2x32x64x2048_S2x2048x32x64_0_3_1_2) shapeCasts_S2x2048x32x64_S2x2048x2048

/-- The reference's result, from its five arguments. -/
def whole (X : Vec Ideal S2x2048x512 .bf16) (W : Vec Ideal S512x2048 .bf16) (K V : Vec Ideal S2x256x32x64 .bf16) (U : Vec Ideal S2048x512 .bf16) : FVec Ideal S2x2048x512 .f32 :=
  Host.dotGeneral dot_S2x2048x2048_S2048x512_S2x2048x512_2_0_01_1_n_n none (allMixed (allWeights (allBumps (allScores (allQueries X W) K))) V) (extf .f32 U bitsLt_bf16_f32)

/-- The reference's result is that of its stages. -/
theorem result_eq (m : (ℓ : Loc nD τ sig) → Buf (Elt Ideal) ℓ) (c : Dev nD) :
    res_main_v44 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The mask -/

/-- A query row's block number is its number over 64, -/
theorem qBlock_apply (i : Fin 2048) : qBlock (ix1 i) = BitVec.ofNat 32 (i.val / 64) := by
  pointwise [qBlock, id]
  revert i
  decide +kernel

/-- and so is a key row's. -/
theorem kBlock_apply (i : Fin 256) : kBlock (ix1 i) = BitVec.ofNat 32 (i.val / 64) := by
  pointwise [kBlock, id]
  revert i
  decide +kernel

/-- A query row's block number modulo four, -/
theorem qMod_apply (i : Fin 2048) : qMod (ix2 i 0) = BitVec.ofNat 32 (i.val / 64 % 4) := by
  pointwise [qMod, four, id, qBlock_apply]
  revert i
  decide +kernel

/-- and a key row's. -/
theorem kMod_apply (i : Fin 256) : kMod (ix2 0 i) = BitVec.ofNat 32 (i.val / 64 % 4) := by
  pointwise [kMod, four, id, kBlock_apply]
  revert i
  decide +kernel

/-- On block numbers the two tests of the mask come to one. -/
theorem tests_eq : ∀ (n : Fin 32) (k : Fin 4),
    IntOp.ori (IntOp.cmpi .eq (BitVec.ofNat 32 n.val) (BitVec.ofNat 32 k.val)) (IntOp.cmpi .eq (BitVec.ofNat 32 (k.val % 4)) (BitVec.ofNat 32 (n.val % 4)))
      = if n.val % 4 = k.val then 1#1 else 0#1 := by decide +kernel

/-- A query sees the keys of the one block whose number is its own block's modulo four. -/
theorem sees_apply (i : Fin 2048) (j : Fin 256) : sees (ix2 i j) = if i.val / 64 % 4 = j.val / 64 then 1#1 else 0#1 := by
  pointwise [sees]
  rw [qBlock_apply, kBlock_apply, qMod_apply, kMod_apply]
  exact tests_eq ⟨i.val / 64, by omega⟩ ⟨j.val / 64, by omega⟩

/-- Every query sees some key. -/
theorem seesAny_apply (i : Fin 2048) : seesAny (ix1 i) = 1#1 := by
  pointwise [seesAny]
  rw [Routing.fold_ori]
  refine ⟨⟨i.val / 64 % 4 * 64, by omega⟩, Finset.mem_univ _, ?_⟩
  rw [sees_apply, if_pos (by simp only; omega)]

/-! ## The stages at an index -/

/-- A query is a row of `x` times a column of the query projection. -/
theorem allQueries_apply (X : Vec Ideal S2x2048x512 .bf16) (W : Vec Ideal S512x2048 .bf16) (b : Fin 2) (i f : Fin 2048) :
    allQueries X W (ix3 b i f) = ∑ t : Fin 512, X (ix3 b i t) * W (ix2 t f) := by
  pointwise [allQueries]

/-- A score is a query times a key, times the factor, where the query sees the key, and minus infinity elsewhere. -/
theorem allScores_apply (Q : FVec Ideal S2x2048x2048 .f32) (K : Vec Ideal S2x256x32x64 .bf16) (b : Fin 2) (h : Fin 32) (i : Fin 2048) (j : Fin 256) :
    allScores Q K (ix4 b h i j) = if i.val / 64 % 4 = j.val / 64 then
      (∑ d : Fin 64, Q (ix3 b i ⟨h.val * 64 + d.val, by omega⟩) * K (ix4 b j h d)) * Ideal.ofBits .f32 0x3E000000#32 else ⊥ := by
  pointwise [allScores, id, Cert.Exchange.lowest_bits]
  rw [sees_apply]
  split_ifs
  · rfl
  · rfl

/-- The exponentials of a row of scores are those of the row's softmax. -/
theorem allBumps_apply (S : FVec Ideal S2x32x2048x256 .f32) (b : Fin 2) (h : Fin 32) (i : Fin 2048) (j : Fin 256) :
    allBumps S (ix4 b h i j) = Cert.Exchange.bump (fun l : Fin 256 => S (ix4 b h i l)) j := by
  pointwise [allBumps, Cert.Exchange.bump, Cert.Exchange.top, Cert.Exchange.lowest_bits]

/-- A weight is an exponential over the sum of its row, since every query sees some key. -/
theorem allWeights_apply (E : FVec Ideal S2x32x2048x256 .f32) (b : Fin 2) (h : Fin 32) (i : Fin 2048) (j : Fin 256) :
    allWeights E (ix4 b h i j) = Ideal.div (E (ix4 b h i j)) (∑ l : Fin 256, E (ix4 b h i l)) := by
  pointwise [allWeights, seesAny_apply, id]

/-- The weighted values at a row and a column. -/
theorem allMixed_apply (P : FVec Ideal S2x32x2048x256 .f32) (V : Vec Ideal S2x256x32x64 .bf16) (b : Fin 2) (i f : Fin 2048) :
    allMixed P V (ix3 b i f) = ∑ j : Fin 256, V (ix4 b j ⟨f.val / 64, by omega⟩ ⟨f.val % 64, by omega⟩)
      * P (ix4 b ⟨f.val / 64, by omega⟩ i j) := by
  pointwise [allMixed]

/-- The result is a row of the weighted values times a column of the output projection. -/
theorem whole_apply (X : Vec Ideal S2x2048x512 .bf16) (W : Vec Ideal S512x2048 .bf16) (K V : Vec Ideal S2x256x32x64 .bf16) (U : Vec Ideal S2048x512 .bf16)
    (b : Fin 2) (i : Fin 2048) (e : Fin 512) :
    whole X W K V U (ix3 b i e) = ∑ f : Fin 2048, allMixed (allWeights (allBumps (allScores (allQueries X W) K))) V (ix3 b i f) * U (ix2 f e) := by
  pointwise [whole]

end Cert.Reference

end
-- ==== Proof.Softmax.lean ====
/-
The softmax of a row whose scores are minus infinity off one block: it is the softmax of the block, and zero off it.
-/
module

public import proofs.«01_k».proof.Proof.Block

@[expose] public section

noncomputable section

namespace Cert.Exchange

open Idealize.ShloMosaic

/-! ## Finite extended reals -/

/-- An extended real that is a real number. -/
def Finite (x : EReal) : Prop := ∃ r : ℝ, (r : EReal) = x

/-- Products of real numbers are real, -/
theorem Finite.mul {x y : EReal} (hx : Finite x) (hy : Finite y) : Finite (x * y) := by
  obtain ⟨r, rfl⟩ := hx
  obtain ⟨s, rfl⟩ := hy
  exact ⟨r * s, EReal.coe_mul r s⟩

/-- and so are sums. -/
theorem Finite.sum {ι : Type} (s : Finset ι) {f : ι → EReal} (hf : ∀ i, Finite (f i)) : Finite (∑ i ∈ s, f i) := by
  classical
  induction s using Finset.induction_on with
  | empty => exact ⟨0, by simp⟩
  | insert a s ha ih =>
    obtain ⟨r, hr⟩ := hf a
    obtain ⟨t, ht⟩ := ih
    exact ⟨r + t, by rw [Finset.sum_insert ha, ← hr, ← ht, EReal.coe_add]⟩

/-- The factor of the scores is a real number. -/
theorem scale_finite : Finite (Ideal.ofBits .f32 0x3E000000#32) := by
  simp only [Ideal.ofBits, Ideal.ieee]
  rw [if_neg (by decide), if_neg (by decide)]
  exact ⟨_, rfl⟩

/-! ## Rows -/

/-- Exponentials are not negative. -/
theorem exp_nonneg (x : EReal) : 0 ≤ Ideal.exp x := by
  induction x with
  | bot => simp
  | coe r => simpa using (Real.exp_pos r).le
  | top => simp

/-- The greatest of a row is its supremum. -/
theorem top_eq_sup {n : ℕ} (s : Fin n → EReal) : top s = Finset.univ.sup s := rfl

/-- A row of real scores has a nonzero sum of exponentials: its greatest score's is one. -/
theorem bumps_ne_zero {n : ℕ} [NeZero n] {s : Fin n → EReal} (hs : ∀ j, Finite (s j)) : (∑ j, bump s j) ≠ 0 := by
  obtain ⟨j, -, hj⟩ := Finset.exists_mem_eq_sup (Finset.univ : Finset (Fin n)) ⟨0, Finset.mem_univ _⟩ s
  have h1 : bump s j = 1 := by
    unfold bump
    rw [top_eq_sup, hj]
    obtain ⟨r, hr⟩ := hs j
    rw [← hr, ← EReal.coe_sub, sub_self, Ideal.exp_coe, Real.exp_zero, EReal.coe_one]
  have h2 : bump s j ≤ ∑ l, bump s l := Finset.single_le_sum (f := bump s) (fun l _ => exp_nonneg _) (Finset.mem_univ j)
  rw [h1] at h2
  exact (lt_of_lt_of_le zero_lt_one h2).ne'

/-- Row `j` of block `n`. -/
def inBlock (n : Fin 4) (j : Fin 64) : Fin 256 := ⟨n.val * 64 + j.val, by omega⟩

/-- A row of a block lies in the block, -/
theorem inBlock_block (n : Fin 4) (j : Fin 64) : (inBlock n j).val / 64 = n.val := by unfold inBlock; simp only; omega

/-- and every row of the block is one of these. -/
theorem eq_inBlock {n : Fin 4} {j : Fin 256} (h : n.val = j.val / 64) : ∃ l, inBlock n l = j :=
  ⟨⟨j.val % 64, by omega⟩, Fin.ext (by unfold inBlock; simp only; omega)⟩

/-- A sum over all rows whose terms vanish off one block is the sum over the block. -/
theorem sum_block (n : Fin 4) (F : Fin 256 → EReal) (h0 : ∀ j : Fin 256, n.val ≠ j.val / 64 → F j = 0) :
    ∑ j, F j = ∑ l, F (inBlock n l) := by
  refine (Finset.sum_of_injOn (inBlock n) (fun a _ b _ hab => ?_) (fun _ _ => Finset.mem_coe.mpr (Finset.mem_univ _)) (fun j _ hj => h0 j fun hn => ?_) fun _ _ => rfl).symm
  · have := congrArg Fin.val hab
    unfold inBlock at this
    simp only at this
    exact Fin.ext (by omega)
  · obtain ⟨l, hl⟩ := eq_inBlock hn
    exact hj ⟨l, Finset.mem_coe.mpr (Finset.mem_univ _), hl⟩

section Masked

variable (n : Fin 4) (g : Fin 256 → EReal)

/-- The scores `g` on block `n`, minus infinity off it. -/
def masked (j : Fin 256) : EReal := if n.val = j.val / 64 then g j else ⊥

/-- On the block the scores are kept. -/
theorem masked_in (l : Fin 64) : masked n g (inBlock n l) = g (inBlock n l) := if_pos (inBlock_block n l).symm

/-- The greatest masked score is the greatest of the block. -/
theorem masked_top : top (masked n g) = top fun l => g (inBlock n l) := by
  rw [top_eq_sup, top_eq_sup]
  refine le_antisymm (Finset.sup_le fun j _ => ?_) (Finset.sup_le fun l _ => ?_)
  · by_cases h : n.val = j.val / 64
    · obtain ⟨l, rfl⟩ := eq_inBlock h
      rw [masked_in]
      exact Finset.le_sup (f := fun l => g (inBlock n l)) (Finset.mem_univ l)
    · rw [masked, if_neg h]
      exact bot_le
  · rw [← masked_in n g l]
    exact Finset.le_sup (Finset.mem_univ _)

/-- The exponentials on the block are those of the block alone, -/
theorem masked_bump_in (l : Fin 64) : bump (masked n g) (inBlock n l) = bump (fun l => g (inBlock n l)) l := by
  unfold bump
  rw [masked_top, masked_in]

/-- and vanish off it. -/
theorem masked_bump_off {j : Fin 256} (h : n.val ≠ j.val / 64) : bump (masked n g) j = 0 := by
  unfold bump
  rw [masked, if_neg h, sub_eq_add_neg, EReal.bot_add, Ideal.exp_bot]

/-- Their sum is that of the block alone. -/
theorem masked_sum : ∑ j, bump (masked n g) j = ∑ l, bump (fun l => g (inBlock n l)) l := by
  rw [sum_block n _ fun j h => masked_bump_off n g h]
  exact Finset.sum_congr rfl fun l _ => masked_bump_in n g l

/-- Weighted values under the mask are those of the block alone. -/
theorem masked_mixed (hg : ∀ j, Finite (g j)) (v : Fin 256 → EReal) :
    ∑ j, v j * weight (masked n g) j = ∑ l, weight (fun l => g (inBlock n l)) l * v (inBlock n l) := by
  have hn := bumps_ne_zero fun l => hg (inBlock n l)
  rw [sum_block n _ fun j h => ?_]
  · refine Finset.sum_congr rfl fun l _ => ?_
    rw [mul_comm]
    unfold weight
    rw [masked_bump_in, masked_sum]
  · unfold weight
    rw [masked_bump_off n g h, masked_sum, Ideal.div, if_neg hn, zero_mul, mul_zero]

end Masked

/-- A sum over all the columns, owner by owner. -/
theorem sum_owners (F : Fin 2048 → EReal) : ∑ f, F f = ∑ o : Fin 8, ∑ f : Fin 256, F ⟨o.val * 256 + f.val, by omega⟩ := by
  rw [← Fintype.sum_prod_type']
  refine (Fintype.sum_equiv (finProdFinEquiv (m := 8) (n := 256)) _ _ fun p => ?_).symm
  refine congrArg F (Fin.ext ?_)
  simp [finProdFinEquiv]
  omega

end Cert.Exchange

end
-- ==== Proof.Value.lean ====
/-
The kernel's result over the extended reals is its part of the reference's.
-/
module

public import proofs.«01_k».proof.Proof.KernelValue
public import proofs.«01_k».proof.Proof.RefValue
public import proofs.«01_k».proof.Proof.Softmax
public import proofs.«01_k».proof.Defs
public import Idealize.ShloMosaic.Lib.Layout

@[expose] public section

set_option maxRecDepth 16384

noncomputable section

namespace Cert.Exchange

open Idealize.ShloMosaic Idealize.ShloMosaic.TcCoe Idealize.SL.Sem
open Cert.KernelIdeal

/-! ## The blocks of the whole arrays at an index -/

section Blocks

variable (c : Fin 8)

/-- Row `r` of device `c`'s rows, among all rows. -/
def rowOf (r : Fin 256) : Fin 2048 := ⟨c.val * 256 + r.val, by omega⟩

/-- Device `c`'s block of `x` or of the result, -/
theorem block_rows (X : Cert.ReferenceIdeal.S2x2048x512.Idx → EReal) (b : Fin 2) (r : Fin 256) (t : Fin 512) :
    Layout.block ⟨3, ![2, 256, 512]⟩ ⟨3, ![2, 2048, 512]⟩ 1 8 c X (by decide) (ix3 b r t) = X (ix3 b (rowOf c r) t) := by
  refine congrArg X (Shape.idx3_ext ?_ ?_ ?_) <;> rw [Layout.Tiles.idx_val] <;> rfl

/-- of the query projection, -/
theorem block_wq (W : Cert.ReferenceIdeal.S512x2048.Idx → EReal) (t : Fin 512) (f : Fin 256) :
    Layout.block ⟨2, ![512, 256]⟩ ⟨2, ![512, 2048]⟩ 1 8 c W (by decide) (ix2 t f) = W (ix2 t (rowOf c f)) := by
  refine congrArg W (funext fun a => Fin.ext ?_)
  rw [Layout.Tiles.idx_val]
  fin_cases a <;> rfl

/-- and of the output projection. -/
theorem block_wo (U : Cert.ReferenceIdeal.S2048x512.Idx → EReal) (f : Fin 256) (e : Fin 512) :
    Layout.block ⟨2, ![256, 512]⟩ ⟨2, ![2048, 512]⟩ 0 8 c U (by decide) (ix2 f e) = U (ix2 (rowOf c f) e) := by
  refine congrArg U (funext fun a => Fin.ext ?_)
  rw [Layout.Tiles.idx_val]
  fin_cases a <;> rfl

end Blocks

/-! ## One row of the reference, owner by owner -/

section Rows

variable {X : Vec Ideal Cert.ReferenceIdeal.S2x2048x512 .bf16} {W : Vec Ideal Cert.ReferenceIdeal.S512x2048 .bf16}
variable {K V : Vec Ideal S2x256x32x64 .bf16} {U : Vec Ideal Cert.ReferenceIdeal.S2048x512 .bf16}
variable {x : Vec Ideal S2x256x512 .bf16} {w : Fin 8 → Vec Ideal S512x256 .bf16} {u : Fin 8 → Vec Ideal S256x512 .bf16}
variable (c : Fin 8)

/-- The reference's weighted values at a row of device `c` and a column of owner `o`. -/
theorem mixed_eq (hx : ∀ b r t, x (ix3 b r t) = X (ix3 b (rowOf c r) t)) (hw : ∀ o t f, w o (ix2 t f) = W (ix2 t (rowOf o f)))
    (fx : ∀ j, Finite (x j)) (fw : ∀ o j, Finite (w o j)) (fk : ∀ j, Finite (K j)) (o : Fin 8) (b : Fin 2) (r f : Fin 256) :
    Cert.Reference.allMixed (Cert.Reference.allWeights (Cert.Reference.allBumps (Cert.Reference.allScores (Cert.Reference.allQueries X W) K))) V
      (ix3 b (rowOf c r) (rowOf o f)) = mixed x (w o) K V o b r f := by
  have hh : (⟨(rowOf o f).val / 64, by have := (rowOf o f).isLt; omega⟩ : Fin 32) = headOf o f := Fin.ext (by unfold rowOf headOf; simp only; omega)
  have hd : (⟨(rowOf o f).val % 64, by omega⟩ : Fin 64) = ⟨f.val % 64, by omega⟩ := Fin.ext (by unfold rowOf; simp only; omega)
  rw [Cert.Reference.allMixed_apply, hh, hd]
  let n : Fin 4 := ⟨r.val / 64, by omega⟩
  let g : Fin 256 → EReal := fun j =>
    (∑ d : Fin 64, query x (w o) b r (sibling f d) * K (ix4 b j (headOf o f) d)) * Ideal.ofBits .f32 0x3E000000#32
  have hs : ∀ j : Fin 256, Cert.Reference.allScores (Cert.Reference.allQueries X W) K (ix4 b (headOf o f) (rowOf c r) j) = masked n g j := fun j => by
    rw [Cert.Reference.allScores_apply]
    unfold masked
    have hn : (rowOf c r).val / 64 % 4 = n.val := by show (c.val * 256 + r.val) / 64 % 4 = r.val / 64; omega
    rw [hn]
    refine if_congr Iff.rfl ?_ rfl
    refine congrArg (· * _) (Finset.sum_congr rfl fun d _ => ?_)
    rw [Cert.Reference.allQueries_apply]
    refine congrArg (· * _) (Finset.sum_congr rfl fun t _ => ?_)
    rw [hx, hw]
    refine congrArg (fun y => X (ix3 b (rowOf c r) t) * W (ix2 t y)) (Fin.ext ?_)
    show (o.val * 4 + f.val / 64) * 64 + d.val = o.val * 256 + (f.val / 64 * 64 + d.val)
    omega
  have hp : ∀ j : Fin 256, Cert.Reference.allWeights (Cert.Reference.allBumps (Cert.Reference.allScores (Cert.Reference.allQueries X W) K))
      (ix4 b (headOf o f) (rowOf c r) j) = weight (masked n g) j := fun j => by
    rw [Cert.Reference.allWeights_apply]
    simp only [Cert.Reference.allBumps_apply, hs]
    rfl
  simp only [hp]
  have fg : ∀ j, Finite (g j) := fun j =>
    (Finite.sum _ fun _ => (Finite.sum _ fun _ => (fx _).mul (fw o _)).mul (fk _)).mul scale_finite
  exact masked_mixed n g fg fun j => V (ix4 b j (headOf o f) ⟨f.val % 64, by omega⟩)

/-- The reference's result at a row of device `c`: the sum over the owners of what their heads contribute. -/
theorem whole_eq (hx : ∀ b r t, x (ix3 b r t) = X (ix3 b (rowOf c r) t)) (hw : ∀ o t f, w o (ix2 t f) = W (ix2 t (rowOf o f)))
    (hu : ∀ o f e, u o (ix2 f e) = U (ix2 (rowOf o f) e))
    (fx : ∀ j, Finite (x j)) (fw : ∀ o j, Finite (w o j)) (fk : ∀ j, Finite (K j)) (b : Fin 2) (r : Fin 256) (e : Fin 512) :
    Cert.Reference.whole X W K V U (ix3 b (rowOf c r) e) = ∑ o : Fin 8, given x (w o) K V (u o) o b r e := by
  rw [Cert.Reference.whole_apply, sum_owners]
  refine Finset.sum_congr rfl fun o _ => Finset.sum_congr rfl fun f _ => ?_
  rw [hu]
  exact congrArg (· * _) (mixed_eq c hx hw fx fw fk o b r f)

end Rows

/-! ## The precondition -/

/-- The precondition's side conditions. -/
theorem finite_facts : Cert.Pre_finite_KernelIdeal.Facts := ⟨by decide, by decide, by decide⟩
/-- The same of the reference's shapes. -/
theorem finite_facts_reference : Cert.Pre_finite_ReferenceIdeal.Facts := ⟨by decide, by decide, by decide⟩

/-- An extended real whose absolute value is below the infinity is a real number. -/
theorem finite_of_test {y : Ideal .bf16}
    (h : FloatOps.cmpf .olt (FloatOps.hostAbsf y) (FloatOps.ofBits .bf16 0x7F80#16) = 1#1) : Finite y := by
  have ht : Ideal.ofBits .bf16 0x7F80#16 = (⊤ : EReal) := by simp [Ideal.ofBits, Ideal.ieee]
  have hlt : max (y : EReal) (-y) < ⊤ := by
    rw [← ht]
    by_contra hn
    replace h : Ideal.cmp .olt (max (y : EReal) (-y)) (Ideal.ofBits .bf16 0x7F80#16) = 1#1 := h
    rw [Ideal.cmp, decide_eq_false hn] at h
    exact absurd h (by decide)
  have h1 := lt_of_le_of_lt (le_max_left _ _) hlt
  have h2 := lt_of_le_of_lt (le_max_right _ _) hlt
  refine ⟨EReal.toReal y, EReal.coe_toReal h1.ne fun hb => ?_⟩
  rw [hb] at h2
  simp at h2

/-- The precondition makes the inputs of the scores real numbers. -/
theorem pre_finite {m : (ℓ : Loc nD τ sig) → Buf (Elt Ideal) ℓ} (h : Cert.Pre_KernelIdeal_finite_KernelIdeal (hPre_finite_KernelIdeal := finite_facts) m) (c : Dev nD) :
    (∀ j, Finite ((m ((c.tc : Thread nD τ).loc main_arg0) : Vec Ideal S2x256x512 .bf16) j))
    ∧ (∀ j, Finite ((m ((c.tc : Thread nD τ).loc main_arg1) : Vec Ideal S512x256 .bf16) j))
    ∧ ∀ j, Finite ((m ((c.tc : Thread nD τ).loc main_arg2) : Vec Ideal S2x256x32x64 .bf16) j) :=
  ⟨fun j => finite_of_test (congrFun (h c).1 j), fun j => finite_of_test (congrFun (h c).2.1 j), fun j => finite_of_test (congrFun (h c).2.2 j)⟩

/-! ## The claim -/

section Results

variable {m : (ℓ : Loc nD τ sig) → Buf (Elt Ideal) ℓ}
variable {X : Vec Ideal Cert.ReferenceIdeal.S2x2048x512 .bf16} {W : Vec Ideal Cert.ReferenceIdeal.S512x2048 .bf16}
variable {K V : Vec Ideal S2x256x32x64 .bf16} {U : Vec Ideal Cert.ReferenceIdeal.S2048x512 .bf16}

/-- A device whose arguments are its blocks of the reference's ends with its block of the reference's result. -/
theorem outAt_block (hpre : Cert.Pre_KernelIdeal_finite_KernelIdeal (hPre_finite_KernelIdeal := finite_facts) m)
    (h0 : ∀ c : Dev nD, m ((c.tc : Thread nD τ).loc main_arg0) = Layout.block ⟨3, ![2, 256, 512]⟩ ⟨3, ![2, 2048, 512]⟩ 1 8 c X)
    (h1 : ∀ c : Dev nD, m ((c.tc : Thread nD τ).loc main_arg1) = Layout.block ⟨2, ![512, 256]⟩ ⟨2, ![512, 2048]⟩ 1 8 c W)
    (h2 : ∀ c : Dev nD, m ((c.tc : Thread nD τ).loc main_arg2) = K) (h3 : ∀ c : Dev nD, m ((c.tc : Thread nD τ).loc main_arg3) = V)
    (h4 : ∀ c : Dev nD, m ((c.tc : Thread nD τ).loc main_arg4) = Layout.block ⟨2, ![256, 512]⟩ ⟨2, ![2048, 512]⟩ 0 8 c U) (c : Dev nD) :
    (outAt m c : FVec Ideal S2x256x512 .f32)
      = Layout.block ⟨3, ![2, 256, 512]⟩ ⟨3, ![2, 2048, 512]⟩ 1 8 c (Cert.Reference.whole X W K V U) := by
  refine funext fun j => ?_
  obtain ⟨b, r, e, rfl⟩ : ∃ (b : Fin 2) (r : Fin 256) (e : Fin 512), j = ix3 b r e := ⟨_, _, _, eq_ix3 j⟩
  refine (outAt_apply m c b r e).trans (((block_rows c _ b r e).trans ?_).symm)
  refine (whole_eq (x := xS m c) (w := fun o => wqS m o) (u := fun o => woS m o) c ?_ ?_ ?_ ?_ ?_ ?_ b r e).trans ?_
  · intro b r t
    rw [xS_eq, h0]
    exact block_rows c X b r t
  · intro o t f
    rw [wqS_eq, h1]
    exact block_wq o W t f
  · intro o f e
    rw [woS_eq, h4]
    exact block_wo o U f e
  · rw [xS_eq]
    exact (pre_finite hpre c).1
  · intro o
    rw [wqS_eq]
    exact (pre_finite hpre o).2.1
  · rw [← h2 c]
    exact (pre_finite hpre c).2.2
  · unfold part
    rw [kS_eq, vS_eq, h2, h3]

end Results

/-- Where the score inputs are finite, each device's result is its part of the reference's. -/
theorem algebraic : Cert.algebraic_KernelIdeal_ReferenceIdeal_pre_finite_KernelIdeal (hPre_finite_KernelIdeal := finite_facts) := by
  intro m g m' g' hpre hargs
  refine ⟨Cert.ReferenceIdeal.Value.res_main_v44 m' 0, ?_, ?_⟩
  · refine (θ_run defs _ _).mono (fun r h c => ⟨?_, (h.1 c).2⟩) (run_ends (F := Ideal) m g)
    rw [(h.1 c).1, Cert.Reference.result_eq]
    exact outAt_block hpre (fun c => (hargs c).1) (fun c => (hargs c).2.1) (fun c => (hargs c).2.2.1) (fun c => (hargs c).2.2.2.1) (fun c => (hargs c).2.2.2.2) c
  · exact (θ_run Cert.ReferenceIdeal.defs _ _).mono (fun r h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs and leaves its arguments alone. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Exchange.finite_facts, Cert.Exchange.finite_facts_reference,
  Cert.Exchange.frame_kernel, Cert.Exchange.frame_kernelIdeal, fun m g _ => Cert.Exchange.frame_kernelIdeal m g trivial,
  frame_reference, fun m g _ => frame_reference m g trivial, trivial, Cert.Exchange.algebraic⟩

end Cert.Proof

end
